-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "qscale" .f32 0x3E16C740#32 (((Real.sqrt 96)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "dn_alpha" .f32 0x3F9837F0#32 ((Real.sqrt (Real.sqrt 2) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  IdealRules.named_const.Statement Cert.Kernel3Ideal.κ "dn_alpha" .f32 0x3F9837F0#32 ((Real.sqrt (Real.sqrt 2) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S1x16384x16x64 : Shape := ⟨4, ![1, 16384, 16, 64]⟩
abbrev S1x16384x16x32 : Shape := ⟨4, ![1, 16384, 16, 32]⟩
abbrev S1x16384x32 : Shape := ⟨3, ![1, 16384, 32]⟩
abbrev S1x16384x1x32 : Shape := ⟨4, ![1, 16384, 1, 32]⟩
abbrev S1x16384x16x192 : Shape := ⟨4, ![1, 16384, 16, 192]⟩
abbrev S_ : Shape := ⟨0, ![]⟩

class Facts : Prop where
  bcast_S1x16384x32_S1x16384x1x32_0_1_3 : S1x16384x32.BroadcastsInDim S1x16384x1x32 (![0, 1, 3] : Fin 3 → Fin S1x16384x1x32.rank)
  bcast_S1x16384x1x32_S1x16384x16x32_0_1_2_3 : S1x16384x1x32.BroadcastsInDim S1x16384x16x32 (![0, 1, 2, 3] : Fin 4 → Fin S1x16384x16x32.rank)
  concatenates_S1x16384x16x64_S1x16384x16x32_S1x16384x16x64_S1x16384x16x32_S1x16384x16x192_d3 : Shape.Concatenates [S1x16384x16x64, S1x16384x16x32, S1x16384x16x64, S1x16384x16x32] S1x16384x16x192 3
  bcast_S_S1x16384x16x192 : S_.BroadcastsInDim S1x16384x16x192 (![] : Fin 0 → Fin S1x16384x16x192.rank)

variable [Facts]

def fn {F : FTy → Type} [FloatOps F] (main_arg0 : FVec F S1x16384x16x64 .f32) (main_arg1 : FVec F S1x16384x16x32 .f32) (main_arg2 : FVec F S1x16384x16x64 .f32) (main_arg3 : FVec F S1x16384x32 .f32) (main_arg4 : FVec F S1x16384x16x64 .f32) : IVec S1x16384x16x192 1 :=
  let main_v0 : FVec F S1x16384x1x32 .f32 := broadcastInDim S1x16384x1x32 ![0, 1, 3] bcast_S1x16384x32_S1x16384x1x32_0_1_3 main_arg3
  let main_v1 : FVec F S1x16384x16x32 .f32 := broadcastInDim S1x16384x16x32 ![0, 1, 2, 3] bcast_S1x16384x1x32_S1x16384x16x32_0_1_2_3 main_v0
  let main_v2 : FVec F S1x16384x16x192 .f32 := concatenate S1x16384x16x192 3 [⟨S1x16384x16x64, main_arg0⟩, ⟨S1x16384x16x32, main_arg1⟩, ⟨S1x16384x16x64, main_arg2⟩, ⟨S1x16384x16x32, main_v1⟩] concatenates_S1x16384x16x64_S1x16384x16x32_S1x16384x16x64_S1x16384x16x32_S1x16384x16x192_d3
  let main_v3 : FVec F S1x16384x16x192 .f32 := Host.absf main_v2
  let main_cst : FVec F S_ .f32 := constant S_ .f32 0x7F800000#32
  let main_v4 : FVec F S1x16384x16x192 .f32 := broadcastInDim S1x16384x16x192 ![] bcast_S_S1x16384x16x192 main_cst
  let main_v5 : IVec S1x16384x16x192 1 := cmpf .olt main_v3 main_v4
  main_v5
-- ==== Kernel.lean ====
abbrev S1x16384x16x64 : Shape := ⟨4, ![1, 16384, 16, 64]⟩
abbrev S1x16384x16x32 : Shape := ⟨4, ![1, 16384, 16, 32]⟩
abbrev S1x16384x32 : Shape := ⟨3, ![1, 16384, 32]⟩
abbrev S1x16384x16x96 : Shape := ⟨4, ![1, 16384, 16, 96]⟩
abbrev S_ : Shape := ⟨0, ![]⟩
abbrev S1x16384x16x128 : Shape := ⟨4, ![1, 16384, 16, 128]⟩
abbrev S1x16384x2048 : Shape := ⟨3, ![1, 16384, 2048]⟩
abbrev S1x16384x1x32 : Shape := ⟨4, ![1, 16384, 1, 32]⟩
abbrev S1x16384x1024 : Shape := ⟨3, ![1, 16384, 1024]⟩
abbrev S1x1024x16384 : Shape := ⟨3, ![1, 1024, 16384]⟩
abbrev S1x16384x256 : Shape := ⟨3, ![1, 16384, 256]⟩
abbrev S1x128x16384 : Shape := ⟨3, ![1, 128, 16384]⟩
abbrev S1x16384x128 : Shape := ⟨3, ![1, 16384, 128]⟩
abbrev S2x2x2048x256 : Shape := ⟨4, ![2, 2, 2048, 256]⟩
abbrev S16x256 : Shape := ⟨2, ![16, 256]⟩
abbrev S1x256 : Shape := ⟨2, ![1, 256]⟩
abbrev S80x256 : Shape := ⟨2, ![80, 256]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S2048x256 : Shape := ⟨2, ![2048, 256]⟩
abbrev S1x1x2048x256 : Shape := ⟨4, ![1, 1, 2048, 256]⟩
abbrev S256 : Shape := ⟨1, ![256]⟩
abbrev S1x1x256x256 : Shape := ⟨4, ![1, 1, 256, 256]⟩
abbrev S256x256 : Shape := ⟨2, ![256, 256]⟩
abbrev S1x64x256 : Shape := ⟨3, ![1, 64, 256]⟩
abbrev S64x256 : Shape := ⟨2, ![64, 256]⟩
abbrev S128x256 : Shape := ⟨2, ![128, 256]⟩

abbrev nBuf : Space → Nat
  | .hbm => 23
  | .vmem => 6
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x32, .f32⟩
  | .hbm, ⟨2, _⟩ => ⟨S1x16384x16x64, .f32⟩
  | .hbm, ⟨3, _⟩ => ⟨S1x16384x32, .f32⟩
  | .hbm, ⟨4, _⟩ => ⟨S1x16384x16x64, .f32⟩
  | .hbm, ⟨5, _⟩ => ⟨S1x16384x16x96, .f32⟩
  | .hbm, ⟨6, _⟩ => ⟨S_, .i32⟩
  | .hbm, ⟨7, _⟩ => ⟨S_, .f32⟩
  | .hbm, ⟨8, _⟩ => ⟨S1x16384x16x128, .f32⟩
  | .hbm, ⟨9, _⟩ => ⟨S1x16384x2048, .f32⟩
  | .hbm, ⟨10, _⟩ => ⟨S1x16384x2048, .bf16⟩
  | .hbm, ⟨11, _⟩ => ⟨S1x16384x1x32, .f32⟩
  | .hbm, ⟨12, _⟩ => ⟨S1x16384x16x32, .f32⟩
  | .hbm, ⟨13, _⟩ => ⟨S1x16384x16x96, .f32⟩
  | .hbm, ⟨14, _⟩ => ⟨S_, .i32⟩
  | .hbm, ⟨15, _⟩ => ⟨S_, .f32⟩
  | .hbm, ⟨16, _⟩ => ⟨S1x16384x16x128, .f32⟩
  | .hbm, ⟨17, _⟩ => ⟨S1x16384x2048, .f32⟩
  | .hbm, ⟨18, _⟩ => ⟨S1x16384x2048, .bf16⟩
  | .hbm, ⟨19, _⟩ => ⟨S1x16384x1024, .f32⟩
  | .hbm, ⟨20, _⟩ => ⟨S1x1024x16384, .f32⟩
  | .hbm, ⟨21, _⟩ => ⟨S1x1024x16384, .bf16⟩
  | .hbm, ⟨22, _⟩ => ⟨S1x16384x1024, .bf16⟩
  | .local _ .vmem, ⟨0, _⟩ => ⟨S1x16384x256, .bf16⟩
  | .local _ .vmem, ⟨1, _⟩ => ⟨S1x16384x256, .bf16⟩
  | .local _ .vmem, ⟨2, _⟩ => ⟨S1x128x16384, .bf16⟩
  | .local _ .vmem, ⟨3, _⟩ => ⟨S1x16384x128, .bf16⟩
  | .local _ .vmem, ⟨4, _⟩ => ⟨S1x16384x128, .bf16⟩
  | .local _ .vmem, ⟨5, _⟩ => ⟨S2x2x2048x256, .f32⟩
  | _, _ => ⟨S1x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![1, 8], ![false, false]⟩

def k0_mult1 : BitVec 32 :=
  let c0_i32 : BitVec 32 := 0#32
  let c511_i32 : BitVec 32 := 511#32
  let v3 : BitVec 32 := Scalar.minsi c0_i32 c511_i32
  let c3_i32 : BitVec 32 := 3#32
  let v4 : BitVec 32 := Scalar.shrui v3 c3_i32
  let c256_i32 : BitVec 32 := 256#32
  let v6 : BitVec 32 := Scalar.muli v4 c256_i32
  v6
def k0_off1 : Fin 3 → Nat :=
  let c0 : Index := 0#32
  let c0_i32 : BitVec 32 := 0#32
  let c511_i32 : BitVec 32 := 511#32
  let v3 : BitVec 32 := Scalar.minsi c0_i32 c511_i32
  let c3_i32 : BitVec 32 := 3#32
  let v4 : BitVec 32 := Scalar.shrui v3 c3_i32
  let c256_i32 : BitVec 32 := 256#32
  let v6 : BitVec 32 := Scalar.muli v4 c256_i32
  let v7 : BitVec 32 := v6
  let v8 : Index := Scalar.indexCast v7
  let c0_2 : Index := 0#32
  ![0, v8.toNat, 0]
def k0_mult2 : BitVec 32 :=
  let c0_i32 : BitVec 32 := 0#32
  let c511_i32 : BitVec 32 := 511#32
  let v3 : BitVec 32 := Scalar.minsi c0_i32 c511_i32
  let c7_i32 : BitVec 32 := 7#32
  let v5 : BitVec 32 := Scalar.andi v3 c7_i32
  let c2048_i32 : BitVec 32 := 2048#32
  let v11 : BitVec 32 := Scalar.muli v5 c2048_i32
  v11
def k0_off2 : Fin 3 → Nat :=
  let c0_3 : Index := 0#32
  let c0_i32 : BitVec 32 := 0#32
  let c511_i32 : BitVec 32 := 511#32
  let v3 : BitVec 32 := Scalar.minsi c0_i32 c511_i32
  let c7_i32 : BitVec 32 := 7#32
  let v5 : BitVec 32 := Scalar.andi v3 c7_i32
  let c2048_i32 : BitVec 32 := 2048#32
  let v11 : BitVec 32 := Scalar.muli v5 c2048_i32
  let v12 : BitVec 32 := v11
  let v13 : Index := Scalar.indexCast v12
  let c0_4 : Index := 0#32
  ![0, v13.toNat, 0]
def k0_mult3 : BitVec 32 :=
  let c0_i32_12 : BitVec 32 := 0#32
  let c511_i32_13 : BitVec 32 := 511#32
  let v24 : BitVec 32 := Scalar.minsi c0_i32_12 c511_i32_13
  let c3_i32_14 : BitVec 32 := 3#32
  let v25 : BitVec 32 := Scalar.shrui v24 c3_i32_14
  let c256_i32_16 : BitVec 32 := 256#32
  let v27 : BitVec 32 := Scalar.muli v25 c256_i32_16
  v27
def k0_off3 : Fin 3 → Nat :=
  let c0_17 : Index := 0#32
  let c0_i32_12 : BitVec 32 := 0#32
  let c511_i32_13 : BitVec 32 := 511#32
  let v24 : BitVec 32 := Scalar.minsi c0_i32_12 c511_i32_13
  let c3_i32_14 : BitVec 32 := 3#32
  let v25 : BitVec 32 := Scalar.shrui v24 c3_i32_14
  let c256_i32_16 : BitVec 32 := 256#32
  let v27 : BitVec 32 := Scalar.muli v25 c256_i32_16
  let v28 : BitVec 32 := v27
  let v29 : Index := Scalar.indexCast v28
  let c128 : Index := 128#32
  ![0, v29.toNat, 128]
def k0_mult4 : BitVec 32 :=
  let c0_i32_12 : BitVec 32 := 0#32
  let c511_i32_13 : BitVec 32 := 511#32
  let v24 : BitVec 32 := Scalar.minsi c0_i32_12 c511_i32_13
  let c7_i32_15 : BitVec 32 := 7#32
  let v26 : BitVec 32 := Scalar.andi v24 c7_i32_15
  let c2048_i32_18 : BitVec 32 := 2048#32
  let v32 : BitVec 32 := Scalar.muli v26 c2048_i32_18
  v32
def k0_off4 : Fin 3 → Nat :=
  let c0_19 : Index := 0#32
  let c0_i32_12 : BitVec 32 := 0#32
  let c511_i32_13 : BitVec 32 := 511#32
  let v24 : BitVec 32 := Scalar.minsi c0_i32_12 c511_i32_13
  let c7_i32_15 : BitVec 32 := 7#32
  let v26 : BitVec 32 := Scalar.andi v24 c7_i32_15
  let c2048_i32_18 : BitVec 32 := 2048#32
  let v32 : BitVec 32 := Scalar.muli v26 c2048_i32_18
  let v33 : BitVec 32 := v32
  let v34 : Index := Scalar.indexCast v33
  let c128_20 : Index := 128#32
  ![0, v34.toNat, 128]
@[reducible] def k0_t1_loop : Scf.Loop 32 :=
  let c0_i32_27 : BitVec 32 := 0#32
  let c64_i32 : BitVec 32 := 64#32
  let v45 : BitVec 32 := Scalar.addi c0_i32_27 c64_i32
  let c1_i32 : BitVec 32 := 1#32
  ⟨c0_i32_27, v45, c1_i32⟩
def k0_mult5 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_31 : BitVec 32 := 8#32
  let v50 : BitVec 32 := Scalar.muli arg7 c8_i32_31
  let c0_i32_32 : BitVec 32 := 0#32
  let v51 : BitVec 32 := Scalar.addi v50 c0_i32_32
  let c1_i32_33 : BitVec 32 := 1#32
  let v52 : BitVec 32 := Scalar.addi v51 c1_i32_33
  let c511_i32_34 : BitVec 32 := 511#32
  let v53 : BitVec 32 := Scalar.minsi v52 c511_i32_34
  let c3_i32_35 : BitVec 32 := 3#32
  let v54 : BitVec 32 := Scalar.shrui v53 c3_i32_35
  let c256_i32_37 : BitVec 32 := 256#32
  let v56 : BitVec 32 := Scalar.muli v54 c256_i32_37
  v56
def k0_off5 (k0_t1 : Fin k0_t1_loop.trips) (c0_i32_32 : BitVec 32) : Fin 3 → Nat :=
  let c0_38 : Index := 0#32
  let c0_i32_27 : BitVec 32 := 0#32
  let c1_i32 : BitVec 32 := 1#32
  let arg7 : BitVec 32 := Scf.iv c0_i32_27 c1_i32 k0_t1
  let c8_i32_31 : BitVec 32 := 8#32
  let v50 : BitVec 32 := Scalar.muli arg7 c8_i32_31
  let v51 : BitVec 32 := Scalar.addi v50 c0_i32_32
  let c1_i32_33 : BitVec 32 := 1#32
  let v52 : BitVec 32 := Scalar.addi v51 c1_i32_33
  let c511_i32_34 : BitVec 32 := 511#32
  let v53 : BitVec 32 := Scalar.minsi v52 c511_i32_34
  let c3_i32_35 : BitVec 32 := 3#32
  let v54 : BitVec 32 := Scalar.shrui v53 c3_i32_35
  let c256_i32_37 : BitVec 32 := 256#32
  let v56 : BitVec 32 := Scalar.muli v54 c256_i32_37
  let v57 : BitVec 32 := v56
  let v58 : Index := Scalar.indexCast v57
  let c0_39 : Index := 0#32
  ![0, v58.toNat, 0]
def k0_mult6 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_31 : BitVec 32 := 8#32
  let v50 : BitVec 32 := Scalar.muli arg7 c8_i32_31
  let c0_i32_32 : BitVec 32 := 0#32
  let v51 : BitVec 32 := Scalar.addi v50 c0_i32_32
  let c1_i32_33 : BitVec 32 := 1#32
  let v52 : BitVec 32 := Scalar.addi v51 c1_i32_33
  let c511_i32_34 : BitVec 32 := 511#32
  let v53 : BitVec 32 := Scalar.minsi v52 c511_i32_34
  let c7_i32_36 : BitVec 32 := 7#32
  let v55 : BitVec 32 := Scalar.andi v53 c7_i32_36
  let c2048_i32_40 : BitVec 32 := 2048#32
  let v61 : BitVec 32 := Scalar.muli v55 c2048_i32_40
  v61
def k0_off6 (k0_t1 : Fin k0_t1_loop.trips) (c0_i32_32 : BitVec 32) : Fin 3 → Nat :=
  let c0_41 : Index := 0#32
  let c0_i32_27 : BitVec 32 := 0#32
  let c1_i32 : BitVec 32 := 1#32
  let arg7 : BitVec 32 := Scf.iv c0_i32_27 c1_i32 k0_t1
  let c8_i32_31 : BitVec 32 := 8#32
  let v50 : BitVec 32 := Scalar.muli arg7 c8_i32_31
  let v51 : BitVec 32 := Scalar.addi v50 c0_i32_32
  let c1_i32_33 : BitVec 32 := 1#32
  let v52 : BitVec 32 := Scalar.addi v51 c1_i32_33
  let c511_i32_34 : BitVec 32 := 511#32
  let v53 : BitVec 32 := Scalar.minsi v52 c511_i32_34
  let c7_i32_36 : BitVec 32 := 7#32
  let v55 : BitVec 32 := Scalar.andi v53 c7_i32_36
  let c2048_i32_40 : BitVec 32 := 2048#32
  let v61 : BitVec 32 := Scalar.muli v55 c2048_i32_40
  let v62 : BitVec 32 := v61
  let v63 : Index := Scalar.indexCast v62
  let c0_42 : Index := 0#32
  ![0, v63.toNat, 0]
def k0_mult7 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32 : BitVec 32 := 8#32
  let v48 : BitVec 32 := Scalar.muli v47 c8_i32
  let c0_i32_30 : BitVec 32 := 0#32
  let v49 : BitVec 32 := Scalar.addi v48 c0_i32_30
  let c2048_i32_50 : BitVec 32 := 2048#32
  let v74 : BitVec 32 := Scalar.muli v49 c2048_i32_50
  v74
def k0_off7 (k0_t1 : Fin k0_t1_loop.trips) (c0_i32_30 : BitVec 32) (c0_i32_55 : BitVec 32) : Fin 3 → Nat :=
  let c0_56 : Index := 0#32
  let c0_57 : Index := 0#32
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32 : BitVec 32 := 8#32
  let v48 : BitVec 32 := Scalar.muli v47 c8_i32
  let v49 : BitVec 32 := Scalar.addi v48 c0_i32_30
  let c2048_i32_50 : BitVec 32 := 2048#32
  let v74 : BitVec 32 := Scalar.muli v49 c2048_i32_50
  let v75 : BitVec 32 := v74
  let v87 : BitVec 32 := Scalar.addi v75 c0_i32_55
  let v88 : Index := Scalar.indexCast v87
  ![0, 0, v88.toNat]
def k0_mult8 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_102 : BitVec 32 := 8#32
  let v185 : BitVec 32 := Scalar.muli arg7 c8_i32_102
  let c0_i32_103 : BitVec 32 := 0#32
  let v186 : BitVec 32 := Scalar.addi v185 c0_i32_103
  let c1_i32_104 : BitVec 32 := 1#32
  let v187 : BitVec 32 := Scalar.addi v186 c1_i32_104
  let c511_i32_105 : BitVec 32 := 511#32
  let v188 : BitVec 32 := Scalar.minsi v187 c511_i32_105
  let c3_i32_106 : BitVec 32 := 3#32
  let v189 : BitVec 32 := Scalar.shrui v188 c3_i32_106
  let c256_i32_108 : BitVec 32 := 256#32
  let v191 : BitVec 32 := Scalar.muli v189 c256_i32_108
  v191
def k0_off8 (k0_t1 : Fin k0_t1_loop.trips) (c0_i32_103 : BitVec 32) : Fin 3 → Nat :=
  let c0_109 : Index := 0#32
  let c0_i32_27 : BitVec 32 := 0#32
  let c1_i32 : BitVec 32 := 1#32
  let arg7 : BitVec 32 := Scf.iv c0_i32_27 c1_i32 k0_t1
  let c8_i32_102 : BitVec 32 := 8#32
  let v185 : BitVec 32 := Scalar.muli arg7 c8_i32_102
  let v186 : BitVec 32 := Scalar.addi v185 c0_i32_103
  let c1_i32_104 : BitVec 32 := 1#32
  let v187 : BitVec 32 := Scalar.addi v186 c1_i32_104
  let c511_i32_105 : BitVec 32 := 511#32
  let v188 : BitVec 32 := Scalar.minsi v187 c511_i32_105
  let c3_i32_106 : BitVec 32 := 3#32
  let v189 : BitVec 32 := Scalar.shrui v188 c3_i32_106
  let c256_i32_108 : BitVec 32 := 256#32
  let v191 : BitVec 32 := Scalar.muli v189 c256_i32_108
  let v192 : BitVec 32 := v191
  let v193 : Index := Scalar.indexCast v192
  let c128_110 : Index := 128#32
  ![0, v193.toNat, 128]
def k0_mult9 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_102 : BitVec 32 := 8#32
  let v185 : BitVec 32 := Scalar.muli arg7 c8_i32_102
  let c0_i32_103 : BitVec 32 := 0#32
  let v186 : BitVec 32 := Scalar.addi v185 c0_i32_103
  let c1_i32_104 : BitVec 32 := 1#32
  let v187 : BitVec 32 := Scalar.addi v186 c1_i32_104
  let c511_i32_105 : BitVec 32 := 511#32
  let v188 : BitVec 32 := Scalar.minsi v187 c511_i32_105
  let c7_i32_107 : BitVec 32 := 7#32
  let v190 : BitVec 32 := Scalar.andi v188 c7_i32_107
  let c2048_i32_111 : BitVec 32 := 2048#32
  let v196 : BitVec 32 := Scalar.muli v190 c2048_i32_111
  v196
def k0_off9 (k0_t1 : Fin k0_t1_loop.trips) (c0_i32_103 : BitVec 32) : Fin 3 → Nat :=
  let c0_112 : Index := 0#32
  let c0_i32_27 : BitVec 32 := 0#32
  let c1_i32 : BitVec 32 := 1#32
  let arg7 : BitVec 32 := Scf.iv c0_i32_27 c1_i32 k0_t1
  let c8_i32_102 : BitVec 32 := 8#32
  let v185 : BitVec 32 := Scalar.muli arg7 c8_i32_102
  let v186 : BitVec 32 := Scalar.addi v185 c0_i32_103
  let c1_i32_104 : BitVec 32 := 1#32
  let v187 : BitVec 32 := Scalar.addi v186 c1_i32_104
  let c511_i32_105 : BitVec 32 := 511#32
  let v188 : BitVec 32 := Scalar.minsi v187 c511_i32_105
  let c7_i32_107 : BitVec 32 := 7#32
  let v190 : BitVec 32 := Scalar.andi v188 c7_i32_107
  let c2048_i32_111 : BitVec 32 := 2048#32
  let v196 : BitVec 32 := Scalar.muli v190 c2048_i32_111
  let v197 : BitVec 32 := v196
  let v198 : Index := Scalar.indexCast v197
  let c128_113 : Index := 128#32
  ![0, v198.toNat, 128]
def k0_mult10 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32 : BitVec 32 := 8#32
  let v48 : BitVec 32 := Scalar.muli v47 c8_i32
  let c0_i32_30 : BitVec 32 := 0#32
  let v49 : BitVec 32 := Scalar.addi v48 c0_i32_30
  let c2048_i32_121 : BitVec 32 := 2048#32
  let v209 : BitVec 32 := Scalar.muli v49 c2048_i32_121
  v209
def k0_off10 (k0_t1 : Fin k0_t1_loop.trips) (c0_i32_30 : BitVec 32) (c0_i32_126 : BitVec 32) : Fin 3 → Nat :=
  let c0_127 : Index := 0#32
  let c64 : Index := 64#32
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32 : BitVec 32 := 8#32
  let v48 : BitVec 32 := Scalar.muli v47 c8_i32
  let v49 : BitVec 32 := Scalar.addi v48 c0_i32_30
  let c2048_i32_121 : BitVec 32 := 2048#32
  let v209 : BitVec 32 := Scalar.muli v49 c2048_i32_121
  let v210 : BitVec 32 := v209
  let v222 : BitVec 32 := Scalar.addi v210 c0_i32_126
  let v223 : Index := Scalar.indexCast v222
  ![0, 64, v223.toNat]
def k0_mult11 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_187 : BitVec 32 := 8#32
  let v322 : BitVec 32 := Scalar.muli arg7 c8_i32_187
  let c1_i32_188 : BitVec 32 := 1#32
  let v323 : BitVec 32 := Scalar.addi v322 c1_i32_188
  let c1_i32_189 : BitVec 32 := 1#32
  let v324 : BitVec 32 := Scalar.addi v323 c1_i32_189
  let c511_i32_190 : BitVec 32 := 511#32
  let v325 : BitVec 32 := Scalar.minsi v324 c511_i32_190
  let c3_i32_191 : BitVec 32 := 3#32
  let v326 : BitVec 32 := Scalar.shrui v325 c3_i32_191
  let c256_i32_193 : BitVec 32 := 256#32
  let v328 : BitVec 32 := Scalar.muli v326 c256_i32_193
  v328
def k0_mult12 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_187 : BitVec 32 := 8#32
  let v322 : BitVec 32 := Scalar.muli arg7 c8_i32_187
  let c1_i32_188 : BitVec 32 := 1#32
  let v323 : BitVec 32 := Scalar.addi v322 c1_i32_188
  let c1_i32_189 : BitVec 32 := 1#32
  let v324 : BitVec 32 := Scalar.addi v323 c1_i32_189
  let c511_i32_190 : BitVec 32 := 511#32
  let v325 : BitVec 32 := Scalar.minsi v324 c511_i32_190
  let c7_i32_192 : BitVec 32 := 7#32
  let v327 : BitVec 32 := Scalar.andi v325 c7_i32_192
  let c2048_i32_196 : BitVec 32 := 2048#32
  let v333 : BitVec 32 := Scalar.muli v327 c2048_i32_196
  v333
def k0_mult13 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_185 : BitVec 32 := 8#32
  let v320 : BitVec 32 := Scalar.muli v47 c8_i32_185
  let c1_i32_186 : BitVec 32 := 1#32
  let v321 : BitVec 32 := Scalar.addi v320 c1_i32_186
  let c2048_i32_206 : BitVec 32 := 2048#32
  let v346 : BitVec 32 := Scalar.muli v321 c2048_i32_206
  v346
def k0_mult14 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_271 : BitVec 32 := 8#32
  let v457 : BitVec 32 := Scalar.muli arg7 c8_i32_271
  let c1_i32_272 : BitVec 32 := 1#32
  let v458 : BitVec 32 := Scalar.addi v457 c1_i32_272
  let c1_i32_273 : BitVec 32 := 1#32
  let v459 : BitVec 32 := Scalar.addi v458 c1_i32_273
  let c511_i32_274 : BitVec 32 := 511#32
  let v460 : BitVec 32 := Scalar.minsi v459 c511_i32_274
  let c3_i32_275 : BitVec 32 := 3#32
  let v461 : BitVec 32 := Scalar.shrui v460 c3_i32_275
  let c256_i32_277 : BitVec 32 := 256#32
  let v463 : BitVec 32 := Scalar.muli v461 c256_i32_277
  v463
def k0_mult15 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_271 : BitVec 32 := 8#32
  let v457 : BitVec 32 := Scalar.muli arg7 c8_i32_271
  let c1_i32_272 : BitVec 32 := 1#32
  let v458 : BitVec 32 := Scalar.addi v457 c1_i32_272
  let c1_i32_273 : BitVec 32 := 1#32
  let v459 : BitVec 32 := Scalar.addi v458 c1_i32_273
  let c511_i32_274 : BitVec 32 := 511#32
  let v460 : BitVec 32 := Scalar.minsi v459 c511_i32_274
  let c7_i32_276 : BitVec 32 := 7#32
  let v462 : BitVec 32 := Scalar.andi v460 c7_i32_276
  let c2048_i32_280 : BitVec 32 := 2048#32
  let v468 : BitVec 32 := Scalar.muli v462 c2048_i32_280
  v468
def k0_mult16 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_185 : BitVec 32 := 8#32
  let v320 : BitVec 32 := Scalar.muli v47 c8_i32_185
  let c1_i32_186 : BitVec 32 := 1#32
  let v321 : BitVec 32 := Scalar.addi v320 c1_i32_186
  let c2048_i32_290 : BitVec 32 := 2048#32
  let v481 : BitVec 32 := Scalar.muli v321 c2048_i32_290
  v481
def k0_mult17 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_356 : BitVec 32 := 8#32
  let v594 : BitVec 32 := Scalar.muli arg7 c8_i32_356
  let c2_i32_357 : BitVec 32 := 2#32
  let v595 : BitVec 32 := Scalar.addi v594 c2_i32_357
  let c1_i32_358 : BitVec 32 := 1#32
  let v596 : BitVec 32 := Scalar.addi v595 c1_i32_358
  let c511_i32_359 : BitVec 32 := 511#32
  let v597 : BitVec 32 := Scalar.minsi v596 c511_i32_359
  let c3_i32_360 : BitVec 32 := 3#32
  let v598 : BitVec 32 := Scalar.shrui v597 c3_i32_360
  let c256_i32_362 : BitVec 32 := 256#32
  let v600 : BitVec 32 := Scalar.muli v598 c256_i32_362
  v600
def k0_mult18 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_356 : BitVec 32 := 8#32
  let v594 : BitVec 32 := Scalar.muli arg7 c8_i32_356
  let c2_i32_357 : BitVec 32 := 2#32
  let v595 : BitVec 32 := Scalar.addi v594 c2_i32_357
  let c1_i32_358 : BitVec 32 := 1#32
  let v596 : BitVec 32 := Scalar.addi v595 c1_i32_358
  let c511_i32_359 : BitVec 32 := 511#32
  let v597 : BitVec 32 := Scalar.minsi v596 c511_i32_359
  let c7_i32_361 : BitVec 32 := 7#32
  let v599 : BitVec 32 := Scalar.andi v597 c7_i32_361
  let c2048_i32_365 : BitVec 32 := 2048#32
  let v605 : BitVec 32 := Scalar.muli v599 c2048_i32_365
  v605
def k0_mult19 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_355 : BitVec 32 := 8#32
  let v592 : BitVec 32 := Scalar.muli v47 c8_i32_355
  let c2_i32 : BitVec 32 := 2#32
  let v593 : BitVec 32 := Scalar.addi v592 c2_i32
  let c2048_i32_375 : BitVec 32 := 2048#32
  let v618 : BitVec 32 := Scalar.muli v593 c2048_i32_375
  v618
def k0_mult20 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_440 : BitVec 32 := 8#32
  let v729 : BitVec 32 := Scalar.muli arg7 c8_i32_440
  let c2_i32_441 : BitVec 32 := 2#32
  let v730 : BitVec 32 := Scalar.addi v729 c2_i32_441
  let c1_i32_442 : BitVec 32 := 1#32
  let v731 : BitVec 32 := Scalar.addi v730 c1_i32_442
  let c511_i32_443 : BitVec 32 := 511#32
  let v732 : BitVec 32 := Scalar.minsi v731 c511_i32_443
  let c3_i32_444 : BitVec 32 := 3#32
  let v733 : BitVec 32 := Scalar.shrui v732 c3_i32_444
  let c256_i32_446 : BitVec 32 := 256#32
  let v735 : BitVec 32 := Scalar.muli v733 c256_i32_446
  v735
def k0_mult21 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_440 : BitVec 32 := 8#32
  let v729 : BitVec 32 := Scalar.muli arg7 c8_i32_440
  let c2_i32_441 : BitVec 32 := 2#32
  let v730 : BitVec 32 := Scalar.addi v729 c2_i32_441
  let c1_i32_442 : BitVec 32 := 1#32
  let v731 : BitVec 32 := Scalar.addi v730 c1_i32_442
  let c511_i32_443 : BitVec 32 := 511#32
  let v732 : BitVec 32 := Scalar.minsi v731 c511_i32_443
  let c7_i32_445 : BitVec 32 := 7#32
  let v734 : BitVec 32 := Scalar.andi v732 c7_i32_445
  let c2048_i32_449 : BitVec 32 := 2048#32
  let v740 : BitVec 32 := Scalar.muli v734 c2048_i32_449
  v740
def k0_mult22 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_355 : BitVec 32 := 8#32
  let v592 : BitVec 32 := Scalar.muli v47 c8_i32_355
  let c2_i32 : BitVec 32 := 2#32
  let v593 : BitVec 32 := Scalar.addi v592 c2_i32
  let c2048_i32_459 : BitVec 32 := 2048#32
  let v753 : BitVec 32 := Scalar.muli v593 c2048_i32_459
  v753
def k0_mult23 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_526 : BitVec 32 := 8#32
  let v866 : BitVec 32 := Scalar.muli arg7 c8_i32_526
  let c3_i32_527 : BitVec 32 := 3#32
  let v867 : BitVec 32 := Scalar.addi v866 c3_i32_527
  let c1_i32_528 : BitVec 32 := 1#32
  let v868 : BitVec 32 := Scalar.addi v867 c1_i32_528
  let c511_i32_529 : BitVec 32 := 511#32
  let v869 : BitVec 32 := Scalar.minsi v868 c511_i32_529
  let c3_i32_530 : BitVec 32 := 3#32
  let v870 : BitVec 32 := Scalar.shrui v869 c3_i32_530
  let c256_i32_532 : BitVec 32 := 256#32
  let v872 : BitVec 32 := Scalar.muli v870 c256_i32_532
  v872
def k0_mult24 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_526 : BitVec 32 := 8#32
  let v866 : BitVec 32 := Scalar.muli arg7 c8_i32_526
  let c3_i32_527 : BitVec 32 := 3#32
  let v867 : BitVec 32 := Scalar.addi v866 c3_i32_527
  let c1_i32_528 : BitVec 32 := 1#32
  let v868 : BitVec 32 := Scalar.addi v867 c1_i32_528
  let c511_i32_529 : BitVec 32 := 511#32
  let v869 : BitVec 32 := Scalar.minsi v868 c511_i32_529
  let c7_i32_531 : BitVec 32 := 7#32
  let v871 : BitVec 32 := Scalar.andi v869 c7_i32_531
  let c2048_i32_535 : BitVec 32 := 2048#32
  let v877 : BitVec 32 := Scalar.muli v871 c2048_i32_535
  v877
def k0_mult25 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_524 : BitVec 32 := 8#32
  let v864 : BitVec 32 := Scalar.muli v47 c8_i32_524
  let c3_i32_525 : BitVec 32 := 3#32
  let v865 : BitVec 32 := Scalar.addi v864 c3_i32_525
  let c2048_i32_545 : BitVec 32 := 2048#32
  let v890 : BitVec 32 := Scalar.muli v865 c2048_i32_545
  v890
def k0_mult26 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_610 : BitVec 32 := 8#32
  let v1001 : BitVec 32 := Scalar.muli arg7 c8_i32_610
  let c3_i32_611 : BitVec 32 := 3#32
  let v1002 : BitVec 32 := Scalar.addi v1001 c3_i32_611
  let c1_i32_612 : BitVec 32 := 1#32
  let v1003 : BitVec 32 := Scalar.addi v1002 c1_i32_612
  let c511_i32_613 : BitVec 32 := 511#32
  let v1004 : BitVec 32 := Scalar.minsi v1003 c511_i32_613
  let c3_i32_614 : BitVec 32 := 3#32
  let v1005 : BitVec 32 := Scalar.shrui v1004 c3_i32_614
  let c256_i32_616 : BitVec 32 := 256#32
  let v1007 : BitVec 32 := Scalar.muli v1005 c256_i32_616
  v1007
def k0_mult27 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_610 : BitVec 32 := 8#32
  let v1001 : BitVec 32 := Scalar.muli arg7 c8_i32_610
  let c3_i32_611 : BitVec 32 := 3#32
  let v1002 : BitVec 32 := Scalar.addi v1001 c3_i32_611
  let c1_i32_612 : BitVec 32 := 1#32
  let v1003 : BitVec 32 := Scalar.addi v1002 c1_i32_612
  let c511_i32_613 : BitVec 32 := 511#32
  let v1004 : BitVec 32 := Scalar.minsi v1003 c511_i32_613
  let c7_i32_615 : BitVec 32 := 7#32
  let v1006 : BitVec 32 := Scalar.andi v1004 c7_i32_615
  let c2048_i32_619 : BitVec 32 := 2048#32
  let v1012 : BitVec 32 := Scalar.muli v1006 c2048_i32_619
  v1012
def k0_mult28 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_524 : BitVec 32 := 8#32
  let v864 : BitVec 32 := Scalar.muli v47 c8_i32_524
  let c3_i32_525 : BitVec 32 := 3#32
  let v865 : BitVec 32 := Scalar.addi v864 c3_i32_525
  let c2048_i32_629 : BitVec 32 := 2048#32
  let v1025 : BitVec 32 := Scalar.muli v865 c2048_i32_629
  v1025
def k0_mult29 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_695 : BitVec 32 := 8#32
  let v1138 : BitVec 32 := Scalar.muli arg7 c8_i32_695
  let c4_i32_696 : BitVec 32 := 4#32
  let v1139 : BitVec 32 := Scalar.addi v1138 c4_i32_696
  let c1_i32_697 : BitVec 32 := 1#32
  let v1140 : BitVec 32 := Scalar.addi v1139 c1_i32_697
  let c511_i32_698 : BitVec 32 := 511#32
  let v1141 : BitVec 32 := Scalar.minsi v1140 c511_i32_698
  let c3_i32_699 : BitVec 32 := 3#32
  let v1142 : BitVec 32 := Scalar.shrui v1141 c3_i32_699
  let c256_i32_701 : BitVec 32 := 256#32
  let v1144 : BitVec 32 := Scalar.muli v1142 c256_i32_701
  v1144
def k0_mult30 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_695 : BitVec 32 := 8#32
  let v1138 : BitVec 32 := Scalar.muli arg7 c8_i32_695
  let c4_i32_696 : BitVec 32 := 4#32
  let v1139 : BitVec 32 := Scalar.addi v1138 c4_i32_696
  let c1_i32_697 : BitVec 32 := 1#32
  let v1140 : BitVec 32 := Scalar.addi v1139 c1_i32_697
  let c511_i32_698 : BitVec 32 := 511#32
  let v1141 : BitVec 32 := Scalar.minsi v1140 c511_i32_698
  let c7_i32_700 : BitVec 32 := 7#32
  let v1143 : BitVec 32 := Scalar.andi v1141 c7_i32_700
  let c2048_i32_704 : BitVec 32 := 2048#32
  let v1149 : BitVec 32 := Scalar.muli v1143 c2048_i32_704
  v1149
def k0_mult31 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_694 : BitVec 32 := 8#32
  let v1136 : BitVec 32 := Scalar.muli v47 c8_i32_694
  let c4_i32 : BitVec 32 := 4#32
  let v1137 : BitVec 32 := Scalar.addi v1136 c4_i32
  let c2048_i32_714 : BitVec 32 := 2048#32
  let v1162 : BitVec 32 := Scalar.muli v1137 c2048_i32_714
  v1162
def k0_mult32 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_779 : BitVec 32 := 8#32
  let v1273 : BitVec 32 := Scalar.muli arg7 c8_i32_779
  let c4_i32_780 : BitVec 32 := 4#32
  let v1274 : BitVec 32 := Scalar.addi v1273 c4_i32_780
  let c1_i32_781 : BitVec 32 := 1#32
  let v1275 : BitVec 32 := Scalar.addi v1274 c1_i32_781
  let c511_i32_782 : BitVec 32 := 511#32
  let v1276 : BitVec 32 := Scalar.minsi v1275 c511_i32_782
  let c3_i32_783 : BitVec 32 := 3#32
  let v1277 : BitVec 32 := Scalar.shrui v1276 c3_i32_783
  let c256_i32_785 : BitVec 32 := 256#32
  let v1279 : BitVec 32 := Scalar.muli v1277 c256_i32_785
  v1279
def k0_mult33 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_779 : BitVec 32 := 8#32
  let v1273 : BitVec 32 := Scalar.muli arg7 c8_i32_779
  let c4_i32_780 : BitVec 32 := 4#32
  let v1274 : BitVec 32 := Scalar.addi v1273 c4_i32_780
  let c1_i32_781 : BitVec 32 := 1#32
  let v1275 : BitVec 32 := Scalar.addi v1274 c1_i32_781
  let c511_i32_782 : BitVec 32 := 511#32
  let v1276 : BitVec 32 := Scalar.minsi v1275 c511_i32_782
  let c7_i32_784 : BitVec 32 := 7#32
  let v1278 : BitVec 32 := Scalar.andi v1276 c7_i32_784
  let c2048_i32_788 : BitVec 32 := 2048#32
  let v1284 : BitVec 32 := Scalar.muli v1278 c2048_i32_788
  v1284
def k0_mult34 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_694 : BitVec 32 := 8#32
  let v1136 : BitVec 32 := Scalar.muli v47 c8_i32_694
  let c4_i32 : BitVec 32 := 4#32
  let v1137 : BitVec 32 := Scalar.addi v1136 c4_i32
  let c2048_i32_798 : BitVec 32 := 2048#32
  let v1297 : BitVec 32 := Scalar.muli v1137 c2048_i32_798
  v1297
def k0_mult35 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_864 : BitVec 32 := 8#32
  let v1410 : BitVec 32 := Scalar.muli arg7 c8_i32_864
  let c5_i32_865 : BitVec 32 := 5#32
  let v1411 : BitVec 32 := Scalar.addi v1410 c5_i32_865
  let c1_i32_866 : BitVec 32 := 1#32
  let v1412 : BitVec 32 := Scalar.addi v1411 c1_i32_866
  let c511_i32_867 : BitVec 32 := 511#32
  let v1413 : BitVec 32 := Scalar.minsi v1412 c511_i32_867
  let c3_i32_868 : BitVec 32 := 3#32
  let v1414 : BitVec 32 := Scalar.shrui v1413 c3_i32_868
  let c256_i32_870 : BitVec 32 := 256#32
  let v1416 : BitVec 32 := Scalar.muli v1414 c256_i32_870
  v1416
def k0_mult36 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_864 : BitVec 32 := 8#32
  let v1410 : BitVec 32 := Scalar.muli arg7 c8_i32_864
  let c5_i32_865 : BitVec 32 := 5#32
  let v1411 : BitVec 32 := Scalar.addi v1410 c5_i32_865
  let c1_i32_866 : BitVec 32 := 1#32
  let v1412 : BitVec 32 := Scalar.addi v1411 c1_i32_866
  let c511_i32_867 : BitVec 32 := 511#32
  let v1413 : BitVec 32 := Scalar.minsi v1412 c511_i32_867
  let c7_i32_869 : BitVec 32 := 7#32
  let v1415 : BitVec 32 := Scalar.andi v1413 c7_i32_869
  let c2048_i32_873 : BitVec 32 := 2048#32
  let v1421 : BitVec 32 := Scalar.muli v1415 c2048_i32_873
  v1421
def k0_mult37 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_863 : BitVec 32 := 8#32
  let v1408 : BitVec 32 := Scalar.muli v47 c8_i32_863
  let c5_i32 : BitVec 32 := 5#32
  let v1409 : BitVec 32 := Scalar.addi v1408 c5_i32
  let c2048_i32_883 : BitVec 32 := 2048#32
  let v1434 : BitVec 32 := Scalar.muli v1409 c2048_i32_883
  v1434
def k0_mult38 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_948 : BitVec 32 := 8#32
  let v1545 : BitVec 32 := Scalar.muli arg7 c8_i32_948
  let c5_i32_949 : BitVec 32 := 5#32
  let v1546 : BitVec 32 := Scalar.addi v1545 c5_i32_949
  let c1_i32_950 : BitVec 32 := 1#32
  let v1547 : BitVec 32 := Scalar.addi v1546 c1_i32_950
  let c511_i32_951 : BitVec 32 := 511#32
  let v1548 : BitVec 32 := Scalar.minsi v1547 c511_i32_951
  let c3_i32_952 : BitVec 32 := 3#32
  let v1549 : BitVec 32 := Scalar.shrui v1548 c3_i32_952
  let c256_i32_954 : BitVec 32 := 256#32
  let v1551 : BitVec 32 := Scalar.muli v1549 c256_i32_954
  v1551
def k0_mult39 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_948 : BitVec 32 := 8#32
  let v1545 : BitVec 32 := Scalar.muli arg7 c8_i32_948
  let c5_i32_949 : BitVec 32 := 5#32
  let v1546 : BitVec 32 := Scalar.addi v1545 c5_i32_949
  let c1_i32_950 : BitVec 32 := 1#32
  let v1547 : BitVec 32 := Scalar.addi v1546 c1_i32_950
  let c511_i32_951 : BitVec 32 := 511#32
  let v1548 : BitVec 32 := Scalar.minsi v1547 c511_i32_951
  let c7_i32_953 : BitVec 32 := 7#32
  let v1550 : BitVec 32 := Scalar.andi v1548 c7_i32_953
  let c2048_i32_957 : BitVec 32 := 2048#32
  let v1556 : BitVec 32 := Scalar.muli v1550 c2048_i32_957
  v1556
def k0_mult40 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_863 : BitVec 32 := 8#32
  let v1408 : BitVec 32 := Scalar.muli v47 c8_i32_863
  let c5_i32 : BitVec 32 := 5#32
  let v1409 : BitVec 32 := Scalar.addi v1408 c5_i32
  let c2048_i32_967 : BitVec 32 := 2048#32
  let v1569 : BitVec 32 := Scalar.muli v1409 c2048_i32_967
  v1569
def k0_mult41 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_1033 : BitVec 32 := 8#32
  let v1682 : BitVec 32 := Scalar.muli arg7 c8_i32_1033
  let c6_i32_1034 : BitVec 32 := 6#32
  let v1683 : BitVec 32 := Scalar.addi v1682 c6_i32_1034
  let c1_i32_1035 : BitVec 32 := 1#32
  let v1684 : BitVec 32 := Scalar.addi v1683 c1_i32_1035
  let c511_i32_1036 : BitVec 32 := 511#32
  let v1685 : BitVec 32 := Scalar.minsi v1684 c511_i32_1036
  let c3_i32_1037 : BitVec 32 := 3#32
  let v1686 : BitVec 32 := Scalar.shrui v1685 c3_i32_1037
  let c256_i32_1039 : BitVec 32 := 256#32
  let v1688 : BitVec 32 := Scalar.muli v1686 c256_i32_1039
  v1688
def k0_mult42 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_1033 : BitVec 32 := 8#32
  let v1682 : BitVec 32 := Scalar.muli arg7 c8_i32_1033
  let c6_i32_1034 : BitVec 32 := 6#32
  let v1683 : BitVec 32 := Scalar.addi v1682 c6_i32_1034
  let c1_i32_1035 : BitVec 32 := 1#32
  let v1684 : BitVec 32 := Scalar.addi v1683 c1_i32_1035
  let c511_i32_1036 : BitVec 32 := 511#32
  let v1685 : BitVec 32 := Scalar.minsi v1684 c511_i32_1036
  let c7_i32_1038 : BitVec 32 := 7#32
  let v1687 : BitVec 32 := Scalar.andi v1685 c7_i32_1038
  let c2048_i32_1042 : BitVec 32 := 2048#32
  let v1693 : BitVec 32 := Scalar.muli v1687 c2048_i32_1042
  v1693
def k0_mult43 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_1032 : BitVec 32 := 8#32
  let v1680 : BitVec 32 := Scalar.muli v47 c8_i32_1032
  let c6_i32 : BitVec 32 := 6#32
  let v1681 : BitVec 32 := Scalar.addi v1680 c6_i32
  let c2048_i32_1052 : BitVec 32 := 2048#32
  let v1706 : BitVec 32 := Scalar.muli v1681 c2048_i32_1052
  v1706
def k0_mult44 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_1117 : BitVec 32 := 8#32
  let v1817 : BitVec 32 := Scalar.muli arg7 c8_i32_1117
  let c6_i32_1118 : BitVec 32 := 6#32
  let v1818 : BitVec 32 := Scalar.addi v1817 c6_i32_1118
  let c1_i32_1119 : BitVec 32 := 1#32
  let v1819 : BitVec 32 := Scalar.addi v1818 c1_i32_1119
  let c511_i32_1120 : BitVec 32 := 511#32
  let v1820 : BitVec 32 := Scalar.minsi v1819 c511_i32_1120
  let c3_i32_1121 : BitVec 32 := 3#32
  let v1821 : BitVec 32 := Scalar.shrui v1820 c3_i32_1121
  let c256_i32_1123 : BitVec 32 := 256#32
  let v1823 : BitVec 32 := Scalar.muli v1821 c256_i32_1123
  v1823
def k0_mult45 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_1117 : BitVec 32 := 8#32
  let v1817 : BitVec 32 := Scalar.muli arg7 c8_i32_1117
  let c6_i32_1118 : BitVec 32 := 6#32
  let v1818 : BitVec 32 := Scalar.addi v1817 c6_i32_1118
  let c1_i32_1119 : BitVec 32 := 1#32
  let v1819 : BitVec 32 := Scalar.addi v1818 c1_i32_1119
  let c511_i32_1120 : BitVec 32 := 511#32
  let v1820 : BitVec 32 := Scalar.minsi v1819 c511_i32_1120
  let c7_i32_1122 : BitVec 32 := 7#32
  let v1822 : BitVec 32 := Scalar.andi v1820 c7_i32_1122
  let c2048_i32_1126 : BitVec 32 := 2048#32
  let v1828 : BitVec 32 := Scalar.muli v1822 c2048_i32_1126
  v1828
def k0_mult46 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_1032 : BitVec 32 := 8#32
  let v1680 : BitVec 32 := Scalar.muli v47 c8_i32_1032
  let c6_i32 : BitVec 32 := 6#32
  let v1681 : BitVec 32 := Scalar.addi v1680 c6_i32
  let c2048_i32_1136 : BitVec 32 := 2048#32
  let v1841 : BitVec 32 := Scalar.muli v1681 c2048_i32_1136
  v1841
def k0_mult47 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_1203 : BitVec 32 := 8#32
  let v1954 : BitVec 32 := Scalar.muli arg7 c8_i32_1203
  let c7_i32_1204 : BitVec 32 := 7#32
  let v1955 : BitVec 32 := Scalar.addi v1954 c7_i32_1204
  let c1_i32_1205 : BitVec 32 := 1#32
  let v1956 : BitVec 32 := Scalar.addi v1955 c1_i32_1205
  let c511_i32_1206 : BitVec 32 := 511#32
  let v1957 : BitVec 32 := Scalar.minsi v1956 c511_i32_1206
  let c3_i32_1207 : BitVec 32 := 3#32
  let v1958 : BitVec 32 := Scalar.shrui v1957 c3_i32_1207
  let c256_i32_1209 : BitVec 32 := 256#32
  let v1960 : BitVec 32 := Scalar.muli v1958 c256_i32_1209
  v1960
def k0_mult48 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_1203 : BitVec 32 := 8#32
  let v1954 : BitVec 32 := Scalar.muli arg7 c8_i32_1203
  let c7_i32_1204 : BitVec 32 := 7#32
  let v1955 : BitVec 32 := Scalar.addi v1954 c7_i32_1204
  let c1_i32_1205 : BitVec 32 := 1#32
  let v1956 : BitVec 32 := Scalar.addi v1955 c1_i32_1205
  let c511_i32_1206 : BitVec 32 := 511#32
  let v1957 : BitVec 32 := Scalar.minsi v1956 c511_i32_1206
  let c7_i32_1208 : BitVec 32 := 7#32
  let v1959 : BitVec 32 := Scalar.andi v1957 c7_i32_1208
  let c2048_i32_1212 : BitVec 32 := 2048#32
  let v1965 : BitVec 32 := Scalar.muli v1959 c2048_i32_1212
  v1965
def k0_mult49 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_1201 : BitVec 32 := 8#32
  let v1952 : BitVec 32 := Scalar.muli v47 c8_i32_1201
  let c7_i32_1202 : BitVec 32 := 7#32
  let v1953 : BitVec 32 := Scalar.addi v1952 c7_i32_1202
  let c2048_i32_1222 : BitVec 32 := 2048#32
  let v1978 : BitVec 32 := Scalar.muli v1953 c2048_i32_1222
  v1978
def k0_mult50 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_1287 : BitVec 32 := 8#32
  let v2089 : BitVec 32 := Scalar.muli arg7 c8_i32_1287
  let c7_i32_1288 : BitVec 32 := 7#32
  let v2090 : BitVec 32 := Scalar.addi v2089 c7_i32_1288
  let c1_i32_1289 : BitVec 32 := 1#32
  let v2091 : BitVec 32 := Scalar.addi v2090 c1_i32_1289
  let c511_i32_1290 : BitVec 32 := 511#32
  let v2092 : BitVec 32 := Scalar.minsi v2091 c511_i32_1290
  let c3_i32_1291 : BitVec 32 := 3#32
  let v2093 : BitVec 32 := Scalar.shrui v2092 c3_i32_1291
  let c256_i32_1293 : BitVec 32 := 256#32
  let v2095 : BitVec 32 := Scalar.muli v2093 c256_i32_1293
  v2095
def k0_mult51 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c8_i32_1287 : BitVec 32 := 8#32
  let v2089 : BitVec 32 := Scalar.muli arg7 c8_i32_1287
  let c7_i32_1288 : BitVec 32 := 7#32
  let v2090 : BitVec 32 := Scalar.addi v2089 c7_i32_1288
  let c1_i32_1289 : BitVec 32 := 1#32
  let v2091 : BitVec 32 := Scalar.addi v2090 c1_i32_1289
  let c511_i32_1290 : BitVec 32 := 511#32
  let v2092 : BitVec 32 := Scalar.minsi v2091 c511_i32_1290
  let c7_i32_1292 : BitVec 32 := 7#32
  let v2094 : BitVec 32 := Scalar.andi v2092 c7_i32_1292
  let c2048_i32_1296 : BitVec 32 := 2048#32
  let v2100 : BitVec 32 := Scalar.muli v2094 c2048_i32_1296
  v2100
def k0_mult52 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_29 : BitVec 32 := 0#32
  let v47 : BitVec 32 := Scalar.andi arg7 c0_i32_29
  let c8_i32_1201 : BitVec 32 := 8#32
  let v1952 : BitVec 32 := Scalar.muli v47 c8_i32_1201
  let c7_i32_1202 : BitVec 32 := 7#32
  let v1953 : BitVec 32 := Scalar.addi v1952 c7_i32_1202
  let c2048_i32_1306 : BitVec 32 := 2048#32
  let v2113 : BitVec 32 := Scalar.muli v1953 c2048_i32_1306
  v2113
def k0_mult53 (k0_t1 : Fin k0_t1_loop.trips) : BitVec 32 :=
  let c0_i32_27 : BitVec 32 := 0#32
  let c1_i32 : BitVec 32 := 1#32
  let arg7 : BitVec 32 := Scf.iv c0_i32_27 c1_i32 k0_t1
  let c0_i32_1371 : BitVec 32 := 0#32
  let v2224 : BitVec 32 := Scalar.shrui arg7 c0_i32_1371
  let c256_i32_1372 : BitVec 32 := 256#32
  let v2234 : BitVec 32 := Scalar.muli v2224 c256_i32_1372
  v2234
def k0_off11 (k0_t1 : Fin k0_t1_loop.trips) : Fin 3 → Nat :=
  let c0_1373 : Index := 0#32
  let c0_i32_27 : BitVec 32 := 0#32
  let c1_i32 : BitVec 32 := 1#32
  let arg7 : BitVec 32 := Scf.iv c0_i32_27 c1_i32 k0_t1
  let c0_i32_1371 : BitVec 32 := 0#32
  let v2224 : BitVec 32 := Scalar.shrui arg7 c0_i32_1371
  let c256_i32_1372 : BitVec 32 := 256#32
  let v2234 : BitVec 32 := Scalar.muli v2224 c256_i32_1372
  let v2235 : BitVec 32 := v2234
  let v2238 : Index := Scalar.indexCast v2235
  let c0_1374 : Index := 0#32
  ![0, v2238.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x16384x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "qscale" => some (((Real.sqrt 96)⁻¹ * (Real.log 2)⁻¹ : ℝ) : EReal)
  | _ => none
-- ==== ReferenceIdeal.lean ====
abbrev S1x16384x16x64 : Shape := ⟨4, ![1, 16384, 16, 64]⟩
abbrev S1x16384x16x32 : Shape := ⟨4, ![1, 16384, 16, 32]⟩
abbrev S1x16384x32 : Shape := ⟨3, ![1, 16384, 32]⟩
abbrev S1x16x16384x16384 : Shape := ⟨4, ![1, 16, 16384, 16384]⟩
abbrev S1x16384x16384x16 : Shape := ⟨4, ![1, 16384, 16384, 16]⟩
abbrev S_ : Shape := ⟨0, ![]⟩
abbrev S1x16x16384 : Shape := ⟨3, ![1, 16, 16384]⟩
abbrev S1x16x16384x1 : Shape := ⟨4, ![1, 16, 16384, 1]⟩
abbrev S1x16x64x16384 : Shape := ⟨4, ![1, 16, 64, 16384]⟩
abbrev S1x16384x1024 : Shape := ⟨3, ![1, 16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x32, .f32⟩
  | .hbm, ⟨2, _⟩ => ⟨S1x16384x16x64, .f32⟩
  | .hbm, ⟨3, _⟩ => ⟨S1x16384x32, .f32⟩
  | .hbm, ⟨4, _⟩ => ⟨S1x16384x16x64, .f32⟩
  | .hbm, ⟨5, _⟩ => ⟨S1x16x16384x16384, .f32⟩
  | .hbm, ⟨6, _⟩ => ⟨S1x16384x16384x16, .f32⟩
  | .hbm, ⟨7, _⟩ => ⟨S1x16x16384x16384, .f32⟩
  | .hbm, ⟨8, _⟩ => ⟨S1x16x16384x16384, .f32⟩
  | .hbm, ⟨9, _⟩ => ⟨S_, .f32⟩
  | .hbm, ⟨10, _⟩ => ⟨S_, .f32⟩
  | .hbm, ⟨11, _⟩ => ⟨S1x16x16384x16384, .f32⟩
  | .hbm, ⟨12, _⟩ => ⟨S1x16x16384x16384, .f32⟩
  | .hbm, ⟨13, _⟩ => ⟨S_, .f32⟩
  | .hbm, ⟨14, _⟩ => ⟨S1x16x16384, .f32⟩
  | .hbm, ⟨15, _⟩ => ⟨S_, .f32⟩
  | .hbm, ⟨16, _⟩ => ⟨S1x16x16384, .f32⟩
  | .hbm, ⟨17, _⟩ => ⟨S1x16x16384, .f32⟩
  | .hbm, ⟨18, _⟩ => ⟨S1x16x16384x1, .f32⟩
  | .hbm, ⟨19, _⟩ => ⟨S1x16x16384x16384, .f32⟩
  | .hbm, ⟨20, _⟩ => ⟨S1x16x16384x16384, .f32⟩
  | .hbm, ⟨21, _⟩ => ⟨S1x16x16384x16384, .f32⟩
  | .hbm, ⟨22, _⟩ => ⟨S_, .f32⟩
  | .hbm, ⟨23, _⟩ => ⟨S1x16x16384, .f32⟩
  | .hbm, ⟨24, _⟩ => ⟨S1x16x16384x1, .f32⟩
  | .hbm, ⟨25, _⟩ => ⟨S1x16x16384x16384, .f32⟩
  | .hbm, ⟨26, _⟩ => ⟨S1x16x16384x16384, .f32⟩
  | .hbm, ⟨27, _⟩ => ⟨S1x16x64x16384, .f32⟩
  | .hbm, ⟨28, _⟩ => ⟨S1x16384x16x64, .f32⟩
  | .hbm, ⟨29, _⟩ => ⟨S1x16384x1024, .f32⟩
  | .hbm, ⟨30, _⟩ => ⟨S1x16384x1024, .bf16⟩
  | _, _ => ⟨S1x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x6x1024 : Shape := ⟨3, ![1, 6, 1024]⟩
abbrev S1024x1024 : Shape := ⟨2, ![1024, 1024]⟩
abbrev S1024 : Shape := ⟨1, ![1024]⟩
abbrev S_ : Shape := ⟨0, ![]⟩
abbrev S1x8x1024 : Shape := ⟨3, ![1, 8, 1024]⟩
abbrev S1x1024 : Shape := ⟨2, ![1, 1024]⟩
abbrev S1x512x1024 : Shape := ⟨3, ![1, 512, 1024]⟩
abbrev S8x1024 : Shape := ⟨2, ![8, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 27
  | .vmem => 24
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1x16384x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x6x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S_, .i32⟩
  | .hbm, ⟨14, _⟩ => ⟨S_, .f32⟩
  | .hbm, ⟨15, _⟩ => ⟨S1x8x1024, .f32⟩
  | .hbm, ⟨16, _⟩ => ⟨S1x16384x1024, .bf16⟩
  | .hbm, ⟨17, _⟩ => ⟨S1x16384x1024, .bf16⟩
  | .hbm, ⟨18, _⟩ => ⟨S1x16384x1024, .bf16⟩
  | .hbm, ⟨19, _⟩ => ⟨S1x16384x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x16384x1024, .f32⟩
  | .hbm, ⟨26, _⟩ => ⟨S1x16384x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x8x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .bf16⟩
  | .local _ .vmem, ⟨23, _⟩ => ⟨S1x512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel2Ideal.lean ====
variable {F : FTy → Type} [FloatOps F] [Named F]
def κ : String → Option EReal := fun
  | "dn_alpha" => some ((Real.sqrt (Real.sqrt 2) : ℝ) : EReal)
  | _ => none
-- ==== Reference2Ideal.lean ====
abbrev S1x16384x1024 : Shape := ⟨3, ![1, 16384, 1024]⟩
abbrev S1x6x1024 : Shape := ⟨3, ![1, 6, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S1x16384 : Shape := ⟨2, ![1, 16384]⟩
abbrev S1x16384x1 : Shape := ⟨3, ![1, 16384, 1]⟩

abbrev nBuf : Space → Nat
  | .hbm => 92
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1x16384x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x6x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x16384x1024, .f32⟩
  | .hbm, ⟨17, _⟩ => ⟨S1x16384x1024, .f32⟩
  | .hbm, ⟨18, _⟩ => ⟨S1x16384x1024, .f32⟩
  | .hbm, ⟨19, _⟩ => ⟨S1x16384x1024, .f32⟩
  | .hbm, ⟨20, _⟩ => ⟨S1x16384x1024, .f32⟩
  | .hbm, ⟨21, _⟩ => ⟨S1x16384x1024, .f32⟩
  | .hbm, ⟨22, _⟩ => ⟨S1x16384x1024, .f32⟩
  | .hbm, ⟨23, _⟩ => ⟨S1x16384x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S1x16384x1024, .f32⟩
  | .hbm, ⟨32, _⟩ => ⟨S_, .f32⟩
  | .hbm, ⟨33, _⟩ => ⟨S1x16384, .f32⟩
  | .hbm, ⟨34, _⟩ => ⟨S1x16384x1, .f32⟩
  | .hbm, ⟨35, _⟩ => ⟨S_, .f32⟩
  | .hbm, ⟨36, _⟩ => ⟨S1x16384x1, .f32⟩
  | .hbm, ⟨37, _⟩ => ⟨S1x16384x1, .f32⟩
  | .hbm, ⟨38, _⟩ => ⟨S1x16384x1024, .f32⟩
  | .hbm, ⟨39, _⟩ => ⟨S1x16384x1024, .f32⟩
  | .hbm, ⟨40, _⟩ => ⟨S1x16384x1024, .f32⟩
  | .hbm, ⟨41, _⟩ => ⟨S_, .f32⟩
  | .hbm, ⟨42, _⟩ => ⟨S1x16384, .f32⟩
  | .hbm, ⟨43, _⟩ => ⟨S1x16384x1, .f32⟩
  | .hbm, ⟨44, _⟩ => ⟨S_, .f32⟩
  | .hbm, ⟨45, _⟩ => ⟨S1x16384x1, .f32⟩
  | .hbm, ⟨46, _⟩ => ⟨S1x16384x1, .f32⟩
  | .hbm, ⟨47, _⟩ => ⟨S1x16384x1024, .f32⟩
  | .hbm, ⟨48, _⟩ => ⟨S1x16384x1024, .f32⟩
  | .hbm, ⟨49, _⟩ => ⟨S_, .f32⟩
  | .hbm, ⟨50, _⟩ => ⟨S1x16384x1, .f32⟩
  | .hbm, ⟨51, _⟩ => ⟨S1x16384x1, .f32⟩
  | .hbm, ⟨52, _⟩ => ⟨S1x16384x1, .f32⟩
  | .hbm, ⟨53, _⟩ => ⟨S1x16384x1024, .f32⟩
  | .hbm, ⟨54, _⟩ => ⟨S1x16384x1024, .f32⟩
  | .hbm, ⟨55, _⟩ => ⟨S1x1x1024, .f32⟩
  | .hbm, ⟨56, _⟩ => ⟨S1x16384x1024, .f32⟩
  | .hbm, ⟨57, _⟩ => ⟨S1x16384x1024, .f32⟩
  | .hbm, ⟨58, _⟩ => ⟨S1x1x1024, .f32⟩
  | .hbm, ⟨59, _⟩ => ⟨S1x16384x1024, .f32⟩
  | .hbm, ⟨60, _⟩ => ⟨S1x16384x1024, .f32⟩
  | .hbm, ⟨61, _⟩ => ⟨S_, .f32⟩
  | .hbm, ⟨62, _⟩ => ⟨S1x16384, .f32⟩
  | .hbm, ⟨63, _⟩ => ⟨S1x16384x1, .f32⟩
  | .hbm, ⟨64, _⟩ => ⟨S_, .f32⟩
  | .hbm, ⟨65, _⟩ => ⟨S1x16384x1, .f32⟩
  | .hbm, ⟨66, _⟩ => ⟨S1x16384x1, .f32⟩
  | .hbm, ⟨67, _⟩ => ⟨S1x16384x1024, .f32⟩
  | .hbm, ⟨68, _⟩ => ⟨S1x16384x1024, .f32⟩
  | .hbm, ⟨69, _⟩ => ⟨S1x16384x1024, .f32⟩
  | .hbm, ⟨70, _⟩ => ⟨S_, .f32⟩
  | .hbm, ⟨71, _⟩ => ⟨S1x16384, .f32⟩
  | .hbm, ⟨72, _⟩ => ⟨S1x16384x1, .f32⟩
  | .hbm, ⟨73, _⟩ => ⟨S_, .f32⟩
  | .hbm, ⟨74, _⟩ => ⟨S1x16384x1, .f32⟩
  | .hbm, ⟨75, _⟩ => ⟨S1x16384x1, .f32⟩
  | .hbm, ⟨76, _⟩ => ⟨S1x16384x1024, .f32⟩
  | .hbm, ⟨77, _⟩ => ⟨S1x16384x1024, .f32⟩
  | .hbm, ⟨78, _⟩ => ⟨S_, .f32⟩
  | .hbm, ⟨79, _⟩ => ⟨S1x16384x1, .f32⟩
  | .hbm, ⟨80, _⟩ => ⟨S1x16384x1, .f32⟩
  | .hbm, ⟨81, _⟩ => ⟨S1x16384x1, .f32⟩
  | .hbm, ⟨82, _⟩ => ⟨S1x16384x1024, .f32⟩
  | .hbm, ⟨83, _⟩ => ⟨S1x16384x1024, .f32⟩
  | .hbm, ⟨84, _⟩ => ⟨S_, .f32⟩
  | .hbm, ⟨85, _⟩ => ⟨S1x1x1024, .f32⟩
  | .hbm, ⟨86, _⟩ => ⟨S1x1x1024, .f32⟩
  | .hbm, ⟨87, _⟩ => ⟨S1x16384x1024, .f32⟩
  | .hbm, ⟨88, _⟩ => ⟨S1x16384x1024, .f32⟩
  | .hbm, ⟨89, _⟩ => ⟨S1x16384x1024, .f32⟩
  | .hbm, ⟨90, _⟩ => ⟨S1x16384x1024, .f32⟩
  | .hbm, ⟨91, _⟩ => ⟨S1x16384x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x6x1024 : Shape := ⟨3, ![1, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S1x8x1024 : Shape := ⟨3, ![1, 8, 1024]⟩
abbrev S1024x2816 : Shape := ⟨2, ![1024, 2816]⟩
abbrev S1x5632 : Shape := ⟨2, ![1, 5632]⟩
abbrev S1x1024 : Shape := ⟨2, ![1, 1024]⟩
abbrev S1x512x1024 : Shape := ⟨3, ![1, 512, 1024]⟩
abbrev S1x16x1024 : Shape := ⟨3, ![1, 16, 1024]⟩
abbrev S544x1024 : Shape := ⟨2, ![544, 1024]⟩
abbrev S2x544x256 : Shape := ⟨3, ![2, 544, 256]⟩
abbrev S512x2816 : Shape := ⟨2, ![512, 2816]⟩
abbrev S16x1024 : Shape := ⟨2, ![16, 1024]⟩
abbrev S512x1024 : Shape := ⟨2, ![512, 1024]⟩
abbrev S1024x256 : Shape := ⟨2, ![1024, 256]⟩
abbrev S544x256 : Shape := ⟨2, ![544, 256]⟩
abbrev S1x544x256 : Shape := ⟨3, ![1, 544, 256]⟩
abbrev S3x256 : Shape := ⟨2, ![3, 256]⟩
abbrev S1x256 : Shape := ⟨2, ![1, 256]⟩
abbrev S1x512x256 : Shape := ⟨3, ![1, 512, 256]⟩
abbrev S512x256 : Shape := ⟨2, ![512, 256]⟩
abbrev S8x1024 : Shape := ⟨2, ![8, 1024]⟩
abbrev S512 : Shape := ⟨1, ![512]⟩
abbrev S512x1 : Shape := ⟨2, ![512, 1]⟩

abbrev nBuf : Space → Nat
  | .hbm => 22
  | .vmem => 22
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x6x1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S1x8x1024, .f32⟩
  | .hbm, ⟨12, _⟩ => ⟨S1x16384x1024, .bf16⟩
  | .hbm, ⟨13, _⟩ => ⟨S1024x2816, .f32⟩
  | .hbm, ⟨14, _⟩ => ⟨S1024x2816, .bf16⟩
  | .hbm, ⟨15, _⟩ => ⟨S1024x2816, .f32⟩
  | .hbm, ⟨16, _⟩ => ⟨S1024x2816, .bf16⟩
  | .hbm, ⟨17, _⟩ => ⟨S1x5632, .f32⟩
  | .hbm, ⟨18, _⟩ => ⟨S2816x1024, .bf16⟩
  | .hbm, ⟨19, _⟩ => ⟨S1x1024, .f32⟩
  | .hbm, ⟨20, _⟩ => ⟨S1x1024, .f32⟩
  | .hbm, ⟨21, _⟩ => ⟨S1x16384x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x8x1024, .f32⟩
  | .local _ .vmem, ⟨9, _⟩ => ⟨S1024x2816, .bf16⟩
  | .local _ .vmem, ⟨10, _⟩ => ⟨S1024x2816, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S544x1024, .bf16⟩
  | .local _ .vmem, ⟨19, _⟩ => ⟨S2x544x256, .f32⟩
  | .local _ .vmem, ⟨20, _⟩ => ⟨S2x544x256, .f32⟩
  | .local _ .vmem, ⟨21, _⟩ => ⟨S512x2816, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel3Ideal.lean ====
variable {F : FTy → Type} [FloatOps F] [Named F]
def κ : String → Option EReal := fun
  | "dn_alpha" => some ((Real.sqrt (Real.sqrt 2) : ℝ) : EReal)
  | _ => none
-- ==== Reference3Ideal.lean ====
abbrev S1x16384x1024 : Shape := ⟨3, ![1, 16384, 1024]⟩
abbrev S1x6x1024 : Shape := ⟨3, ![1, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x16384x5632 : Shape := ⟨3, ![1, 16384, 5632]⟩
abbrev S_ : Shape := ⟨0, ![]⟩
abbrev S1x16386x5632 : Shape := ⟨3, ![1, 16386, 5632]⟩
abbrev S1x5632 : Shape := ⟨2, ![1, 5632]⟩
abbrev S1x1x5632 : Shape := ⟨3, ![1, 1, 5632]⟩
abbrev S1x16384x2816 : Shape := ⟨3, ![1, 16384, 2816]⟩
abbrev S1x1x1024 : Shape := ⟨3, ![1, 1, 1024]⟩
abbrev S1x16384 : Shape := ⟨2, ![1, 16384]⟩
abbrev S1x16384x1 : Shape := ⟨3, ![1, 16384, 1]⟩

abbrev nBuf : Space → Nat
  | .hbm => 90
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x6x1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1x16384x5632, .f32⟩
  | .hbm, ⟨10, _⟩ => ⟨S_, .i32⟩
  | .hbm, ⟨11, _⟩ => ⟨S_, .f32⟩
  | .hbm, ⟨12, _⟩ => ⟨S1x16386x5632, .f32⟩
  | .hbm, ⟨13, _⟩ => ⟨S1x5632, .f32⟩
  | .hbm, ⟨14, _⟩ => ⟨S5632, .f32⟩
  | .hbm, ⟨15, _⟩ => ⟨S1x16384x5632, .f32⟩
  | .hbm, ⟨16, _⟩ => ⟨S1x1x5632, .f32⟩
  | .hbm, ⟨17, _⟩ => ⟨S1x16384x5632, .f32⟩
  | .hbm, ⟨18, _⟩ => ⟨S1x16384x5632, .f32⟩
  | .hbm, ⟨19, _⟩ => ⟨S_, .f32⟩
  | .hbm, ⟨20, _⟩ => ⟨S1x16384x5632, .f32⟩
  | .hbm, ⟨21, _⟩ => ⟨S1x16384x5632, .f32⟩
  | .hbm, ⟨22, _⟩ => ⟨S1x5632, .f32⟩
  | .hbm, ⟨23, _⟩ => ⟨S5632, .f32⟩
  | .hbm, ⟨24, _⟩ => ⟨S1x16384x5632, .f32⟩
  | .hbm, ⟨25, _⟩ => ⟨S1x1x5632, .f32⟩
  | .hbm, ⟨26, _⟩ => ⟨S1x16384x5632, .f32⟩
  | .hbm, ⟨27, _⟩ => ⟨S1x16384x5632, .f32⟩
  | .hbm, ⟨28, _⟩ => ⟨S1x16384x5632, .f32⟩
  | .hbm, ⟨29, _⟩ => ⟨S1x5632, .f32⟩
  | .hbm, ⟨30, _⟩ => ⟨S5632, .f32⟩
  | .hbm, ⟨31, _⟩ => ⟨S1x16384x5632, .f32⟩
  | .hbm, ⟨32, _⟩ => ⟨S1x1x5632, .f32⟩
  | .hbm, ⟨33, _⟩ => ⟨S1x16384x5632, .f32⟩
  | .hbm, ⟨34, _⟩ => ⟨S1x16384x5632, .f32⟩
  | .hbm, ⟨35, _⟩ => ⟨S1x16384x5632, .f32⟩
  | .hbm, ⟨36, _⟩ => ⟨S1x1x5632, .f32⟩
  | .hbm, ⟨37, _⟩ => ⟨S1x16384x5632, .f32⟩
  | .hbm, ⟨38, _⟩ => ⟨S1x16384x5632, .f32⟩
  | .hbm, ⟨39, _⟩ => ⟨S1x16384x2816, .f32⟩
  | .hbm, ⟨40, _⟩ => ⟨S1x16384x2816, .f32⟩
  | .hbm, ⟨41, _⟩ => ⟨S1x16384x2816, .f32⟩
  | .hbm, ⟨42, _⟩ => ⟨S1x16384x2816, .f32⟩
  | .hbm, ⟨43, _⟩ => ⟨S_, .f32⟩
  | .hbm, ⟨44, _⟩ => ⟨S1x16384x2816, .f32⟩
  | .hbm, ⟨45, _⟩ => ⟨S1x16384x2816, .f32⟩
  | .hbm, ⟨46, _⟩ => ⟨S_, .f32⟩
  | .hbm, ⟨47, _⟩ => ⟨S1x16384x2816, .f32⟩
  | .hbm, ⟨48, _⟩ => ⟨S1x16384x2816, .f32⟩
  | .hbm, ⟨49, _⟩ => ⟨S1x16384x2816, .f32⟩
  | .hbm, ⟨50, _⟩ => ⟨S1x16384x2816, .f32⟩
  | .hbm, ⟨51, _⟩ => ⟨S1x16384x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1x16384x1024, .f32⟩
  | .hbm, ⟨56, _⟩ => ⟨S1x16384x1024, .f32⟩
  | .hbm, ⟨57, _⟩ => ⟨S1x1x1024, .f32⟩
  | .hbm, ⟨58, _⟩ => ⟨S1x16384x1024, .f32⟩
  | .hbm, ⟨59, _⟩ => ⟨S1x16384x1024, .f32⟩
  | .hbm, ⟨60, _⟩ => ⟨S1x16384x1024, .f32⟩
  | .hbm, ⟨61, _⟩ => ⟨S_, .f32⟩
  | .hbm, ⟨62, _⟩ => ⟨S1x16384, .f32⟩
  | .hbm, ⟨63, _⟩ => ⟨S1x16384x1, .f32⟩
  | .hbm, ⟨64, _⟩ => ⟨S_, .f32⟩
  | .hbm, ⟨65, _⟩ => ⟨S1x16384x1, .f32⟩
  | .hbm, ⟨66, _⟩ => ⟨S1x16384x1, .f32⟩
  | .hbm, ⟨67, _⟩ => ⟨S1x16384x1024, .f32⟩
  | .hbm, ⟨68, _⟩ => ⟨S1x16384x1024, .f32⟩
  | .hbm, ⟨69, _⟩ => ⟨S1x16384x1024, .f32⟩
  | .hbm, ⟨70, _⟩ => ⟨S_, .f32⟩
  | .hbm, ⟨71, _⟩ => ⟨S1x16384, .f32⟩
  | .hbm, ⟨72, _⟩ => ⟨S1x16384x1, .f32⟩
  | .hbm, ⟨73, _⟩ => ⟨S_, .f32⟩
  | .hbm, ⟨74, _⟩ => ⟨S1x16384x1, .f32⟩
  | .hbm, ⟨75, _⟩ => ⟨S1x16384x1, .f32⟩
  | .hbm, ⟨76, _⟩ => ⟨S1x16384x1024, .f32⟩
  | .hbm, ⟨77, _⟩ => ⟨S1x16384x1024, .f32⟩
  | .hbm, ⟨78, _⟩ => ⟨S_, .f32⟩
  | .hbm, ⟨79, _⟩ => ⟨S1x16384x1, .f32⟩
  | .hbm, ⟨80, _⟩ => ⟨S1x16384x1, .f32⟩
  | .hbm, ⟨81, _⟩ => ⟨S1x16384x1, .f32⟩
  | .hbm, ⟨82, _⟩ => ⟨S1x16384x1024, .f32⟩
  | .hbm, ⟨83, _⟩ => ⟨S1x16384x1024, .f32⟩
  | .hbm, ⟨84, _⟩ => ⟨S1x1x1024, .f32⟩
  | .hbm, ⟨85, _⟩ => ⟨S1x16384x1024, .f32⟩
  | .hbm, ⟨86, _⟩ => ⟨S1x16384x1024, .f32⟩
  | .hbm, ⟨87, _⟩ => ⟨S1x1x1024, .f32⟩
  | .hbm, ⟨88, _⟩ => ⟨S1x16384x1024, .f32⟩
  | .hbm, ⟨89, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Proof.LaunchPrinted.lean ====
/-
  The launch of the attention kernel as printed: every run ends with the arguments unchanged, the output's contents
  left unsaid.
-/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.AttnPrinted

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at point `t`, and the scratch buffer. -/
abbrev ms0_0 (t : Fin cfg0.N) : Memref sig .tc .vmem S1x16384x256 .bf16 := win0_0.stage (cfg0.slots t 0)
abbrev ms0_1 (t : Fin cfg0.N) : Memref sig .tc .vmem S1x16384x256 .bf16 := win0_1.stage (cfg0.slots t 1)
abbrev ms0_2 (t : Fin cfg0.N) : Memref sig .tc .vmem S1x128x16384 .bf16 := win0_2.stage (cfg0.slots t 2)
abbrev ms0_3 (t : Fin cfg0.N) : Memref sig .tc .vmem S1x16384x128 .bf16 := win0_3.stage (cfg0.slots t 3)
theorem hs0_0 (t : Fin cfg0.N) : (ms0_0 t).IsWhole := hstage0_0 ((cfg0.slots t 0).cast nbuf0_0)
theorem hs0_1 (t : Fin cfg0.N) : (ms0_1 t).IsWhole := hstage0_1 ((cfg0.slots t 1).cast nbuf0_1)
theorem hs0_2 (t : Fin cfg0.N) : (ms0_2 t).IsWhole := hstage0_2 ((cfg0.slots t 2).cast nbuf0_2)
theorem hs0_3 (t : Fin cfg0.N) : (ms0_3 t).IsWhole := hstage0_3 ((cfg0.slots t 3).cast nbuf0_3)
abbrev scM0_0 : Memref sig .tc .vmem S2x2x2048x256 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The arrays as the region finds them; nothing is said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

/-- The one window whose contents the frame forgets. -/
def fgt : Fin cfg0.W → Bool := fun w => decide (w = 3)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ X, owns (c : Thread nD τ) (ms0_3 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, owns (c : Thread nD τ) (ms0_3 t) fullShare X))

set_option maxHeartbeats 1000000 in
/-- The body runs on any contents of the output block and of the scratch buffer, and leaves the inputs as they were. -/
theorem body_runs (c : Dev nD) (i : grid0.Coords) (arg2 : Memref sig .tc .vmem S1x16384x256 .bf16) (harg2 : arg2.IsWhole) (arg3 : Memref sig .tc .vmem S1x16384x256 .bf16) (harg3 : arg3.IsWhole) (arg4 : Memref sig .tc .vmem S1x128x16384 .bf16) (harg4 : arg4.IsWhole) (arg5 : Memref sig .tc .vmem S1x16384x128 .bf16) (harg5 : arg5.IsWhole) (arg6 : Memref sig .tc .vmem S2x2x2048x256 .f32) (harg6 : arg6.IsWhole)
    (x0 : Vec F S1x16384x256 .bf16) (x1 : Vec F S1x16384x256 .bf16) (x2 : Vec F S1x128x16384 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)) -∗ K ⟨⟩))
      ⊢ wp frame (wpE (defs₀ (F := F)) Variants.none c none) E (cc0_attn i arg2 harg2 arg3 harg3 arg4 harg4 arg5 harg5 arg6 harg6) K := by
  simp only [cc0_attn_eq_skeleton]; unfold cc0_attn_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; iexists _; isplitr
    swap; · iexact H3
    ipureintro; rfl
  iexists _; iexists _; isplitr
  swap; · iexact HS0
  ipureintro; rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨HS0, Hg⟩, Ho, ⟨%d0, H0⟩, ⟨%d1, H1⟩, ⟨%d2, H2⟩, H3⟩
  iapply (body_runs c (grid0.coords t) (ms0_0 t) (hs0_0 t) (ms0_1 t) (hs0_1 t) (ms0_2 t) (hs0_2 t) (ms0_3 t) (hs0_3 t) scM0_0 (Memref.isWhole_whole _)
    (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The argument arrays end unchanged, and every counter is at zero. -/
theorem frame_printed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)
    (Q' := _) (hQ' := fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

end Cert.AttnPrinted

end
-- ==== Proof.Trip.lean ====
/-
  One trip of the attention kernel's counted loop as a program built from one repeated half step.

  The trip works through the eight key tiles of one query tile, two heads each.  A half step computes the scores of the
  tile that comes next into one half of the scratch buffer and folds the tile already there into the running maximum
  and the running sums.  The printed trip is the sixteen half steps in a row, followed by the division and the store.
-/
module

public import proofs.«01_k».proof.Proof.Gen.KernelIdeal.Skeleton
public import Idealize.ShloMosaic.Lib.Tactic

@[expose] public section

noncomputable section

namespace Cert.Attn

open Cert.KernelIdeal Cert.KernelIdeal.Gen
open Idealize.ShloMosaic Idealize.ShloMosaic.TcCoe Idealize.ShloMosaic.Tactic
open Idealize.SL.Sem

variable {F : FTy → Type} [FloatOps F] [Named F]

/-- What one trip of the loop carries: per head the running maximum, the running sums and the largest score of the tile
    waiting in the scratch buffer. -/
abbrev Carry (F : FTy → Type) : Type :=
  FVec F S1x256 .f32 × FVec F S80x256 .f32 × FVec F S1x256 .f32 × FVec F S1x256 .f32 × FVec F S80x256 .f32 × FVec F S1x256 .f32

/-- The running sums after one block of 256 keys: the weights of the block, against the values and the rows of ones. -/
def sub (v0 : FVec F S16x256 .bf16) (mx : FVec F S1x256 .f32) (acc : FVec F S80x256 .f32)
    (s : Vec F S1x1x256x256 .f32) (v : Vec F S1x64x256 .bf16) : FVec F S80x256 .f32 :=
  addf acc (matmul dot_S80x256_S256x256_S80x256_1_0_0_1_n_n none
    (concatenate S80x256 0 [⟨S64x256, shapeCast S64x256 v shapeCasts_S1x64x256_S64x256⟩, ⟨S16x256, v0⟩] concatenates_S64x256_S16x256_S80x256_d0)
    (truncf .bf16 (exp2 (subf (shapeCast S256x256 s shapeCasts_S1x1x256x256_S256x256) (broadcastTo S256x256 mx broadcasts_S1x256_S256x256))) bitsLt_bf16_f32)
    (constant S80x256 .f32 0x00000000#32))

/-- The quotient of the weighted values by the sum of the weights, for one head. -/
def quot (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- What the trip stores: the two heads' quotients side by side, tokens first. -/
def outTile (a0 a1 : FVec F S80x256 .f32) : FVec F S1x256x128 .bf16 :=
  shapeCast S1x256x128 (truncf .bf16 (transpose S256x128 [1, 0]
    (concatenate S128x256 0 [⟨S64x256, quot a0⟩, ⟨S64x256, quot a1⟩] concatenates_S64x256_S64x256_S128x256_d0)
    transposes_S128x256_p1_0_S256x128) bitsLt_bf16_f32) shapeCasts_S256x128_S1x256x128

theorem inbW {p h : ℕ} (hp : p < 2) (hh : h < 2) : ∀ a, (![p, h, 0, 0] : Fin 4 → ℕ) a + S1x1x2048x256.size a ≤ S2x2x2048x256.size a := by
  intro a; fin_cases a <;> simp [S1x1x2048x256, S2x2x2048x256] <;> omega

theorem inbR {p h u : ℕ} (hp : p < 2) (hh : h < 2) (hu : u ≤ 1792) : ∀ a, (![p, h, u, 0] : Fin 4 → ℕ) a + S1x1x256x256.size a ≤ S2x2x2048x256.size a := by
  intro a; fin_cases a <;> simp [S1x1x256x256, S2x2x2048x256] <;> omega

/-- One block of 256 keys of the tile in the scratch buffer: its scores and values are loaded and folded in. -/
def subP (arg4 : Memref sig .tc .vmem S1x128x16384 .bf16) (arg6 : Memref sig .tc .vmem S2x2x2048x256 .f32)
    (v0 : FVec F S16x256 .bf16) (mx : FVec F S1x256 .f32) (p h u : ℕ) (hp : p < 2) (hh : h < 2) (hu : u ≤ 1792)
    (ov : Fin 3 → ℕ) (hov : ∀ a, ov a + S1x64x256.size a ≤ S1x128x16384.size a) (acc : FVec F S80x256 .f32) :
    Prog (TpuEff nD τ sig (Elt F) Λ₀ .tc) (FVec F S80x256 .f32) := do
  let s : Vec F S1x1x256x256 .f32 ← Prog.lift (.load arg6 (Rect.unit (s := S2x2x2048x256) ![p, h, u, 0] S1x1x256x256.size (inbR hp hh hu)).toLoadRect (View.loadsAt_vmem h_S1x1x256x256))
  let v : Vec F S1x64x256 .bf16 ← Prog.lift (.load arg4 (Rect.unit (s := S1x128x16384) ov S1x64x256.size hov).toLoadRect (View.loadsAt_vmem h_S1x64x256))
  pure (sub v0 mx acc s v)

/-- Scores of the tile that comes next, into one quarter of the scratch buffer; their largest is the result. -/
def pre (arg2 : Memref sig .tc .vmem S1x16384x256 .bf16) (arg3 : Memref sig .tc .vmem S1x16384x256 .bf16)
    (arg6 : Memref sig .tc .vmem S2x2x2048x256 .f32) (p h : ℕ) (hp : p < 2) (hh : h < 2)
    (oq ok : Fin 3 → ℕ) (hoq : ∀ a, oq a + S1x256x128.size a ≤ S1x16384x256.size a)
    (hok : ∀ a, ok a + S1x2048x128.size a ≤ S1x16384x256.size a) :
    Prog (TpuEff nD τ sig (Elt F) Λ₀ .tc) (FVec F S1x256 .f32) := do
  let q : Vec F S1x256x128 .bf16 ← Prog.lift (.load arg2 (Rect.unit (s := S1x16384x256) oq S1x256x128.size hoq).toLoadRect (View.loadsAt_vmem h_S1x256x128))
  let kk : Vec F S1x2048x128 .bf16 ← Prog.lift (.load arg3 (Rect.unit (s := S1x16384x256) ok S1x2048x128.size hok).toLoadRect (View.loadsAt_vmem h_S1x2048x128))
  let _ : Vec F S1x1x2048x256 .f32 ← Prog.lift (.load arg6 (Rect.unit (s := S2x2x2048x256) ![p, h, 0, 0] S1x1x2048x256.size (inbW hp hh)).toLoadRect (View.loadsAt_vmem h_S1x1x2048x256))
  Prog.lift (.store arg6 (Rect.unit (s := S2x2x2048x256) ![p, h, 0, 0] S1x1x2048x256.size (inbW hp hh)) (k0_pay6 q kk) Finset.univ (View.stores_vmem_bits_univ h_S1x1x2048x256 rfl) (.inl rfl))
  pure (k0_pay7 q kk)

/-- The eight blocks of one tile. -/
def subs (arg4 : Memref sig .tc .vmem S1x128x16384 .bf16) (arg6 : Memref sig .tc .vmem S2x2x2048x256 .f32)
    (v0 : FVec F S16x256 .bf16) (mx : FVec F S1x256 .f32) (p h : ℕ) (hp : p < 2) (hh : h < 2)
    (ov : Fin 8 → Fin 3 → ℕ) (hov : ∀ u a, ov u a + S1x64x256.size a ≤ S1x128x16384.size a) (acc : FVec F S80x256 .f32) :
    Prog (TpuEff nD τ sig (Elt F) Λ₀ .tc) (FVec F S80x256 .f32) := do
  let acc ← subP arg4 arg6 v0 mx p h 0 hp hh (by decide) (ov 0) (hov 0) acc
  let acc ← subP arg4 arg6 v0 mx p h 256 hp hh (by decide) (ov 1) (hov 1) acc
  let acc ← subP arg4 arg6 v0 mx p h 512 hp hh (by decide) (ov 2) (hov 2) acc
  let acc ← subP arg4 arg6 v0 mx p h 768 hp hh (by decide) (ov 3) (hov 3) acc
  let acc ← subP arg4 arg6 v0 mx p h 1024 hp hh (by decide) (ov 4) (hov 4) acc
  let acc ← subP arg4 arg6 v0 mx p h 1280 hp hh (by decide) (ov 5) (hov 5) acc
  let acc ← subP arg4 arg6 v0 mx p h 1536 hp hh (by decide) (ov 6) (hov 6) acc
  subP arg4 arg6 v0 mx p h 1792 hp hh (by decide) (ov 7) (hov 7) acc

/-- One half step: the next tile's scores, then the present tile folded into the running maximum and sums. -/
def half (arg2 : Memref sig .tc .vmem S1x16384x256 .bf16) (arg3 : Memref sig .tc .vmem S1x16384x256 .bf16)
    (arg4 : Memref sig .tc .vmem S1x128x16384 .bf16) (arg6 : Memref sig .tc .vmem S2x2x2048x256 .f32)
    (v0 : FVec F S16x256 .bf16) (pw p h : ℕ) (hpw : pw < 2) (hp : p < 2) (hh : h < 2)
    (oq ok : Fin 3 → ℕ) (hoq : ∀ a, oq a + S1x256x128.size a ≤ S1x16384x256.size a)
    (hok : ∀ a, ok a + S1x2048x128.size a ≤ S1x16384x256.size a)
    (ov : Fin 8 → Fin 3 → ℕ) (hov : ∀ u a, ov u a + S1x64x256.size a ≤ S1x128x16384.size a)
    (m : FVec F S1x256 .f32) (acc : FVec F S80x256 .f32) (cm : FVec F S1x256 .f32) :
    Prog (TpuEff nD τ sig (Elt F) Λ₀ .tc) (FVec F S1x256 .f32 × FVec F S80x256 .f32 × FVec F S1x256 .f32) := do
  let cm' ← pre arg2 arg3 arg6 pw h hpw hh oq ok hoq hok
  let acc' ← subs arg4 arg6 v0 (k0_pay8 m cm) p h hp hh ov hov (k0_pay9 m acc cm)
  pure (k0_pay8 m cm, acc', cm')

/-- One key tile: the half steps of the two heads. -/
def tileP (arg2 : Memref sig .tc .vmem S1x16384x256 .bf16) (arg3 : Memref sig .tc .vmem S1x16384x256 .bf16)
    (arg4 : Memref sig .tc .vmem S1x128x16384 .bf16) (arg6 : Memref sig .tc .vmem S2x2x2048x256 .f32)
    (v0 : FVec F S16x256 .bf16) (k : Fin k0_t1_loop.trips) (j : Fin 8) (pw p : ℕ) (hpw : pw < 2) (hp : p < 2) (c : Carry F) :
    Prog (TpuEff nD τ sig (Elt F) Λ₀ .tc) (Carry F) := do
  let x ← half arg2 arg3 arg4 arg6 v0 pw p 0 hpw hp (by decide)
    (k0_off5 k (BitVec.ofNat 32 j.val)) (k0_off6 k (BitVec.ofNat 32 j.val)) (k0_off5_inb k j) (k0_off6_inb k j)
    (fun u => k0_off7 k (BitVec.ofNat 32 j.val) (BitVec.ofNat 32 (256 * u.val))) (fun u => k0_off7_inb k j u) c.1 c.2.1 c.2.2.1
  let y ← half arg2 arg3 arg4 arg6 v0 pw p 1 hpw hp (by decide)
    (k0_off8 k (BitVec.ofNat 32 j.val)) (k0_off9 k (BitVec.ofNat 32 j.val)) (k0_off8_inb k j) (k0_off9_inb k j)
    (fun u => k0_off10 k (BitVec.ofNat 32 j.val) (BitVec.ofNat 32 (256 * u.val))) (fun u => k0_off10_inb k j u) c.2.2.2.1 c.2.2.2.2.1 c.2.2.2.2.2
  pure (x.1, x.2.1, x.2.2, y.1, y.2.1, y.2.2)

/-- The trip: the eight key tiles, then the division and the store of the query tile's rows. -/
def tripP (arg2 : Memref sig .tc .vmem S1x16384x256 .bf16) (arg3 : Memref sig .tc .vmem S1x16384x256 .bf16)
    (arg4 : Memref sig .tc .vmem S1x128x16384 .bf16) (arg5 : Memref sig .tc .vmem S1x16384x128 .bf16) (harg5 : arg5.IsWhole)
    (arg6 : Memref sig .tc .vmem S2x2x2048x256 .f32)
    (v0 : FVec F S16x256 .bf16) (v1 : FVec F S1x256 .f32) (v2 : FVec F S80x256 .f32) (k : Fin k0_t1_loop.trips) (c : Carry F) :
    Prog (TpuEff nD τ sig (Elt F) Λ₀ .tc) (Carry F) := do
  let c ← tileP arg2 arg3 arg4 arg6 v0 k 0 1 0 (by decide) (by decide) c
  let c ← tileP arg2 arg3 arg4 arg6 v0 k 1 0 1 (by decide) (by decide) c
  let c ← tileP arg2 arg3 arg4 arg6 v0 k 2 1 0 (by decide) (by decide) c
  let c ← tileP arg2 arg3 arg4 arg6 v0 k 3 0 1 (by decide) (by decide) c
  let c ← tileP arg2 arg3 arg4 arg6 v0 k 4 1 0 (by decide) (by decide) c
  let c ← tileP arg2 arg3 arg4 arg6 v0 k 5 0 1 (by decide) (by decide) c
  let c ← tileP arg2 arg3 arg4 arg6 v0 k 6 1 0 (by decide) (by decide) c
  let c ← tileP arg2 arg3 arg4 arg6 v0 k 7 0 1 (by decide) (by decide) c
  let _ : Vec F S1x256x128 .bf16 ← Prog.lift (.load arg5 (Rect.unit (s := S1x16384x128) (k0_off11 k) S1x256x128.size (k0_off11_inb k)).toLoadRect (View.loadsAt_vmem h_S1x256x128))
  Prog.lift (.store arg5 (Rect.unit (s := S1x16384x128) (k0_off11 k) S1x256x128.size (k0_off11_inb k)) (outTile c.2.1 c.2.2.2.2.1) Finset.univ (View.stores_vmem h_S1x256x128 (harg5.storeExact_slice rfl _ (k0_off11_packedbf16 k)) (fun _ => rfl)) (.inl rfl))
  pure (v1, v2, c.2.2.1, v1, v2, c.2.2.2.2.2)

set_option maxRecDepth 65536 in
set_option maxHeartbeats 4000000 in
/-- The printed trip is the sixteen half steps and the store. -/
theorem body_eq (i : grid0.Coords) (arg2 : Memref sig .tc .vmem S1x16384x256 .bf16) (harg2 : arg2.IsWhole) (arg3 : Memref sig .tc .vmem S1x16384x256 .bf16) (harg3 : arg3.IsWhole) (arg4 : Memref sig .tc .vmem S1x128x16384 .bf16) (harg4 : arg4.IsWhole) (arg5 : Memref sig .tc .vmem S1x16384x128 .bf16) (harg5 : arg5.IsWhole) (arg6 : Memref sig .tc .vmem S2x2x2048x256 .f32) (harg6 : arg6.IsWhole)
    (v0 : FVec F S16x256 .bf16) (v1 : FVec F S1x256 .f32) (v2 : FVec F S80x256 .f32) (k : Fin k0_t1_loop.trips) (c : Carry F) :
    k0_t1_body (F := F) i arg2 harg2 arg3 harg3 arg4 harg4 arg5 harg5 arg6 harg6 v0 v1 v2 k c
      = tripP arg2 arg3 arg4 arg5 harg5 arg6 v0 v1 v2 k c := by
  obtain ⟨c1, c2, c3, c4, c5, c6⟩ := c
  sl_kernel_rfl

end Cert.Attn

end
-- ==== Proof.TripRun.lean ====
/-
  What one trip of the attention kernel's loop computes, and the triples of its parts.

  `st` is the running maximum and the running sums of one head after some key tiles of one query tile, as plain
  functions of the three input blocks; the triples say that the program's parts compute them and that the scratch
  buffer holds, before each tile, the scores of that tile.
-/
module

public import proofs.«01_k».proof.Proof.Trip
public import Idealize.ShloMosaic.Lib.Exec
public import Idealize.ShloMosaic.Lib.Pipeline.FrameBody
public import Idealize.ShloMosaic.Lib.Ring
public import Idealize.ShloMosaic.Lib.Tactic
public import Idealize.ShloMosaic.Lib.WholeRead
public import Idealize.ShloMosaic.Lib.WritesUnit
public import Idealize.ShloMosaic.Lib.ValueIdxCore

@[expose] public section

noncomputable section

namespace Cert.Attn

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The values -/

/-- The query rows of tile number `n` (8 key tiles to a query tile), columns of head `h`. -/
def qTile (X2 : Vec F S1x16384x256 .bf16) (h n : ℕ) : Vec F S1x256x128 .bf16 := fun x =>
  X2 (ix3 (n0 := 1) (n1 := 16384) (n2 := 256) 0 ⟨(256 * (n / 8) + (x 1).val) % 16384, Nat.mod_lt _ (by decide)⟩ ⟨(128 * h + (x 2).val) % 256, Nat.mod_lt _ (by decide)⟩)

/-- The key rows of tile number `n`, columns of head `h`. -/
def kTile (X3 : Vec F S1x16384x256 .bf16) (h n : ℕ) : Vec F S1x2048x128 .bf16 := fun x =>
  X3 (ix3 (n0 := 1) (n1 := 16384) (n2 := 256) 0 ⟨(2048 * (n % 8) + (x 1).val) % 16384, Nat.mod_lt _ (by decide)⟩ ⟨(128 * h + (x 2).val) % 256, Nat.mod_lt _ (by decide)⟩)

/-- The value columns of block `u` of key tile `j`, rows of head `h`. -/
def vBlk (X4 : Vec F S1x128x16384 .bf16) (h j u : ℕ) : Vec F S1x64x256 .bf16 := fun x =>
  X4 (ix3 (n0 := 1) (n1 := 128) (n2 := 16384) 0 ⟨(64 * h + (x 1).val) % 128, Nat.mod_lt _ (by decide)⟩ ⟨(2048 * j + 256 * u + (x 2).val) % 16384, Nat.mod_lt _ (by decide)⟩)

/-- Block `u` of a tile of scores. -/
def sBlk (w : Vec F S1x1x2048x256 .f32) (u : ℕ) : Vec F S1x1x256x256 .f32 := fun x =>
  w (ix4 (n0 := 1) (n1 := 1) (n2 := 2048) (n3 := 256) 0 0 ⟨(256 * u + (x 2).val) % 2048, Nat.mod_lt _ (by decide)⟩ (x 3))

/-- The running sums after the first `u` blocks of a tile. -/
def blk (v0 : FVec F S16x256 .bf16) (mx : FVec F S1x256 .f32) (w : Vec F S1x1x2048x256 .f32) (V : ℕ → Vec F S1x64x256 .bf16)
    (acc : FVec F S80x256 .f32) : ℕ → FVec F S80x256 .f32
  | 0 => acc
  | u + 1 => sub v0 mx (blk v0 mx w V acc u) (sBlk w u) (V u)

/-- The scores of tile `n`, head `h`. -/
def sc (X2 X3 : Vec F S1x16384x256 .bf16) (h n : ℕ) : Vec F S1x1x2048x256 .f32 := k0_pay6 (qTile X2 h n) (kTile X3 h n)

/-- The largest score of tile `n`, head `h`, per query. -/
def cm (X2 X3 : Vec F S1x16384x256 .bf16) (h n : ℕ) : FVec F S1x256 .f32 := k0_pay7 (qTile X2 h n) (kTile X3 h n)

/-- Running maximum and running sums of head `h` after the first `j` key tiles of query tile `t`. -/
def st (v0 : FVec F S16x256 .bf16) (v1 : FVec F S1x256 .f32) (v2 : FVec F S80x256 .f32)
    (X2 X3 : Vec F S1x16384x256 .bf16) (X4 : Vec F S1x128x16384 .bf16) (h t : ℕ) : ℕ → FVec F S1x256 .f32 × FVec F S80x256 .f32
  | 0 => (v1, v2)
  | j + 1 =>
    let s := st v0 v1 v2 X2 X3 X4 h t j
    (k0_pay8 s.1 (cm X2 X3 h (8 * t + j)),
      blk v0 (k0_pay8 s.1 (cm X2 X3 h (8 * t + j))) (sc X2 X3 h (8 * t + j)) (vBlk X4 h j) (k0_pay9 s.1 s.2 (cm X2 X3 h (8 * t + j))) 8)

/-- What the loop carries before key tile `j` of query tile `t`. -/
def carry (v0 : FVec F S16x256 .bf16) (v1 : FVec F S1x256 .f32) (v2 : FVec F S80x256 .f32)
    (X2 X3 : Vec F S1x16384x256 .bf16) (X4 : Vec F S1x128x16384 .bf16) (t j : ℕ) : Carry F :=
  ((st v0 v1 v2 X2 X3 X4 0 t j).1, (st v0 v1 v2 X2 X3 X4 0 t j).2, cm X2 X3 0 (min (8 * t + j) 511),
    (st v0 v1 v2 X2 X3 X4 1 t j).1, (st v0 v1 v2 X2 X3 X4 1 t j).2, cm X2 X3 1 (min (8 * t + j) 511))

/-- The rows the trip of query tile `t` stores. -/
def rows (v0 : FVec F S16x256 .bf16) (v1 : FVec F S1x256 .f32) (v2 : FVec F S80x256 .f32)
    (X2 X3 : Vec F S1x16384x256 .bf16) (X4 : Vec F S1x128x16384 .bf16) (t : ℕ) : FVec F S1x256x128 .bf16 :=
  outTile (st v0 v1 v2 X2 X3 X4 0 t 8).2 (st v0 v1 v2 X2 X3 X4 1 t 8).2

/-- The whole output block. -/
def outBlk (v0 : FVec F S16x256 .bf16) (v1 : FVec F S1x256 .f32) (v2 : FVec F S80x256 .f32)
    (X2 X3 : Vec F S1x16384x256 .bf16) (X4 : Vec F S1x128x16384 .bf16) : FVec F S1x16384x128 .bf16 := fun y =>
  rows v0 v1 v2 X2 X3 X4 ((y 1).val / 256) (ix3 (n0 := 1) (n1 := 256) (n2 := 128) 0 ⟨(y 1).val % 256, Nat.mod_lt _ (by decide)⟩ (y 2))

/-- The scratch buffer with one quarter replaced. -/
def upd (X6 : Vec F S2x2x2048x256 .f32) (p h : ℕ) (w : Vec F S1x1x2048x256 .f32) : Vec F S2x2x2048x256 .f32 := fun y =>
  if (y 0).val = p ∧ (y 1).val = h then w (ix4 (n0 := 1) (n1 := 1) (n2 := 2048) (n3 := 256) 0 0 (y 2) (y 3)) else X6 y

/-- One quarter of the scratch buffer holds a tile of scores. -/
def Holds (X6 : Vec F S2x2x2048x256 .f32) (p h : ℕ) (w : Vec F S1x1x2048x256 .f32) : Prop :=
  ∀ y : S2x2x2048x256.Idx, (y 0).val = p → (y 1).val = h → X6 y = w (ix4 (n0 := 1) (n1 := 1) (n2 := 2048) (n3 := 256) 0 0 (y 2) (y 3))

theorem holds_upd (X6 : Vec F S2x2x2048x256 .f32) (p h : ℕ) (w : Vec F S1x1x2048x256 .f32) : Holds (upd X6 p h w) p h w :=
  fun _ h0 h1 => if_pos ⟨h0, h1⟩

theorem Holds.upd_ne {X6 : Vec F S2x2x2048x256 .f32} {p h p' h' : ℕ} {w w' : Vec F S1x1x2048x256 .f32} (H : Holds X6 p h w)
    (hne : ¬ (p = p' ∧ h = h')) : Holds (upd X6 p' h' w') p h w :=
  fun y h0 h1 => (if_neg fun e => hne ⟨h0 ▸ e.1, h1 ▸ e.2⟩).trans (H y h0 h1)

/-! ## The memory of a trip -/

/-- The four buffers a trip computes with, at their contents. -/
def Mem (c : Dev nD) (arg2 : Memref sig .tc .vmem S1x16384x256 .bf16) (arg3 : Memref sig .tc .vmem S1x16384x256 .bf16)
    (arg4 : Memref sig .tc .vmem S1x128x16384 .bf16) (arg6 : Memref sig .tc .vmem S2x2x2048x256 .f32)
    (X2 X3 : Vec F S1x16384x256 .bf16) (X4 : Vec F S1x128x16384 .bf16) (X6 : Vec F S2x2x2048x256 .f32) : sProp 𝕄 :=
  iprop(owns (c : Thread nD τ) arg2 fullShare X2 ∗ owns (c : Thread nD τ) arg3 fullShare X3 ∗ owns (c : Thread nD τ) arg4 fullShare X4 ∗ owns (c : Thread nD τ) arg6 fullShare X6)

/-- The slice of a block a unit-stride load reads. -/
abbrev cut {s : Shape} {e : EltTy} (X : Vec F s e) (off size : Fin s.rank → ℕ) (inb : ∀ a, off a + size a ≤ s.size a) :
    (Rect.unit (s := s) off size inb).toLoadRect.shape.Idx → Elt F e := fun x => X ((Rect.unit (s := s) off size inb).toLoadRect.idx x)

/-- A program that returns one value and leaves one state, before a program that starts from them. -/
theorem wp_seq {α β : Type} {E : Set ℕ} {c : Dev nD} {P R : sProp 𝕄} {p : Prog (TpuEff nD τ sig (Elt F) Λ₀ .tc) α} {v : α}
    {k : α → Prog (TpuEff nD τ sig (Elt F) Λ₀ .tc) β} {Q : β → sProp 𝕄}
    (h1 : P ⊢ wp frame (wpE (defs₀ (F := F)) Variants.none (c : Thread nD τ) none) E p (fun r => iprop(⌜r = v⌝ ∗ R)))
    (h2 : R ⊢ wp frame (wpE (defs₀ (F := F)) Variants.none (c : Thread nD τ) none) E (k v) Q) :
    P ⊢ wp frame (wpE (defs₀ (F := F)) Variants.none (c : Thread nD τ) none) E (p >>= k) Q := by
  rw [wp_bind]
  refine h1.trans (wp_mono _ _ _ fun a => ?_)
  iintro ⟨%h, H⟩
  subst h
  iapply h2
  iexact H

theorem subP_wp (c : Dev nD) (arg2 : Memref sig .tc .vmem S1x16384x256 .bf16) (arg3 : Memref sig .tc .vmem S1x16384x256 .bf16)
    (arg4 : Memref sig .tc .vmem S1x128x16384 .bf16) (harg4 : arg4.IsWhole) (arg6 : Memref sig .tc .vmem S2x2x2048x256 .f32) (harg6 : arg6.IsWhole)
    (v0 : FVec F S16x256 .bf16) (mx : FVec F S1x256 .f32) (p h u : ℕ) (hp : p < 2) (hh : h < 2) (hu : u ≤ 1792)
    (ov : Fin 3 → ℕ) (hov : ∀ a, ov a + S1x64x256.size a ≤ S1x128x16384.size a) (acc : FVec F S80x256 .f32)
    (X2 X3 : Vec F S1x16384x256 .bf16) (X4 : Vec F S1x128x16384 .bf16) (X6 : Vec F S2x2x2048x256 .f32) (E : Set ℕ) :
    Mem c arg2 arg3 arg4 arg6 X2 X3 X4 X6 ⊢
      wp frame (wpE (defs₀ (F := F)) Variants.none (c : Thread nD τ) none) E (subP arg4 arg6 v0 mx p h u hp hh hu ov hov acc)
        (fun r => iprop(⌜r = sub v0 mx acc (cut X6 ![p, h, u, 0] S1x1x256x256.size (inbR hp hh hu)) (cut X4 ov S1x64x256.size hov)⌝
          ∗ Mem c arg2 arg3 arg4 arg6 X2 X3 X4 X6)) := by
  unfold subP Mem owns
  iintro ⟨H2, H3, ⟨%f4, %hf4, H4⟩, ⟨%f6, %hf6, H6⟩⟩
  obtain rfl := harg4.eq_unread hf4
  obtain rfl := harg6.eq_unread hf6
  sl_exec
  sl_step
  isplitr
  · ipureintro
    congr 1 <;> funext x
    · exact harg6.readAt_unread _ _ _
    · exact harg4.readAt_unread _ _ _
  isplitl [H2]; · iexact H2
  isplitl [H3]; · iexact H3
  isplitl [H4]
  · iexists _; isplitr; · ipureintro; exact harg4.read_unread _
    iexact H4
  · iexists _; isplitr; · ipureintro; exact harg6.read_unread _
    iexact H6

theorem pre_wp (c : Dev nD) (arg2 : Memref sig .tc .vmem S1x16384x256 .bf16) (harg2 : arg2.IsWhole) (arg3 : Memref sig .tc .vmem S1x16384x256 .bf16) (harg3 : arg3.IsWhole)
    (arg4 : Memref sig .tc .vmem S1x128x16384 .bf16)
    (arg6 : Memref sig .tc .vmem S2x2x2048x256 .f32) (harg6 : arg6.IsWhole) (p h : ℕ) (hp : p < 2) (hh : h < 2)
    (oq ok : Fin 3 → ℕ) (hoq : ∀ a, oq a + S1x256x128.size a ≤ S1x16384x256.size a)
    (hok : ∀ a, ok a + S1x2048x128.size a ≤ S1x16384x256.size a)
    (X2 X3 : Vec F S1x16384x256 .bf16) (X4 : Vec F S1x128x16384 .bf16) (X6 : Vec F S2x2x2048x256 .f32) (E : Set ℕ) :
    Mem c arg2 arg3 arg4 arg6 X2 X3 X4 X6 ⊢
      wp frame (wpE (defs₀ (F := F)) Variants.none (c : Thread nD τ) none) E (pre arg2 arg3 arg6 p h hp hh oq ok hoq hok)
        (fun r => iprop(⌜r = k0_pay7 (cut X2 oq S1x256x128.size hoq) (cut X3 ok S1x2048x128.size hok)⌝
          ∗ Mem c arg2 arg3 arg4 arg6 X2 X3 X4 (upd X6 p h (k0_pay6 (cut X2 oq S1x256x128.size hoq) (cut X3 ok S1x2048x128.size hok))))) := by
  unfold pre Mem owns
  iintro ⟨⟨%f2, %hf2, H2⟩, ⟨%f3, %hf3, H3⟩, H4, ⟨%f6, %hf6, H6⟩⟩
  obtain rfl := harg2.eq_unread hf2
  obtain rfl := harg3.eq_unread hf3
  obtain rfl := harg6.eq_unread hf6
  have e2 : View.readAt (Elt F) arg2.view (Rect.unit (s := S1x16384x256) oq S1x256x128.size hoq).toLoadRect (harg2.unread X2) = cut X2 oq S1x256x128.size hoq :=
    funext fun x => harg2.readAt_unread _ _ _
  have e3 : View.readAt (Elt F) arg3.view (Rect.unit (s := S1x16384x256) ok S1x2048x128.size hok).toLoadRect (harg3.unread X3) = cut X3 ok S1x2048x128.size hok :=
    funext fun x => harg3.readAt_unread _ _ _
  sl_exec
  sl_step
  isplitr
  · ipureintro
    rfl
  isplitl [H2]
  · iexists _; isplitr; · ipureintro; exact harg2.read_unread _
    iexact H2
  isplitl [H3]
  · iexists _; isplitr; · ipureintro; exact harg3.read_unread _
    iexact H3
  isplitl [H4]; · iexact H4
  iexists _
  isplitr
  rotate_left
  · iexact H6
  ipureintro
  funext y
  rw [← e2, ← e3]
  unfold upd
  split
  · next hy =>
    refine View.read_writes_cons_unit_of_mem _ _ _ _ _ y (ix4 (n0 := 1) (n1 := 1) (n2 := 2048) (n3 := 256) 0 0 (y 2) (y 3)) rfl ?_
    intro a
    fin_cases a
    · exact hy.1
    · exact hy.2
    · exact (Nat.zero_add _).symm
    · exact (Nat.zero_add _).symm
  · next hy =>
    have e : arg6.view.read (Elt F) (arg6.view.writes (Elt F) (harg6.unread X6) []) y = X6 y := congrFun (harg6.read_unread X6) y
    by_cases h0 : (y 0).val = p
    · refine (View.read_writes_cons_unit_of_not_mem _ _ _ _ _ y rfl 1 ?_).trans e
      have : (y 1).val ≠ h := fun e1 => hy ⟨h0, e1⟩
      show (y 1).val < h ∨ h + 1 ≤ (y 1).val
      omega
    · refine (View.read_writes_cons_unit_of_not_mem _ _ _ _ _ y rfl 0 ?_).trans e
      show (y 0).val < p ∨ p + 1 ≤ (y 0).val
      omega

theorem off7_eq : ∀ (k : Fin k0_t1_loop.trips) (j u : Fin 8), k0_off7 k (BitVec.ofNat 32 j.val) (BitVec.ofNat 32 (256 * u.val)) = ![0, 0, 2048 * j.val + 256 * u.val] := by decide +kernel
theorem off10_eq : ∀ (k : Fin k0_t1_loop.trips) (j u : Fin 8), k0_off10 k (BitVec.ofNat 32 j.val) (BitVec.ofNat 32 (256 * u.val)) = ![0, 64, 2048 * j.val + 256 * u.val] := by decide +kernel
theorem off5_eq : ∀ (k : Fin k0_t1_loop.trips) (j : Fin 8), k0_off5 k (BitVec.ofNat 32 j.val) = ![0, 256 * (min (8 * k.val + j.val + 1) 511 / 8), 0] := by decide +kernel
theorem off6_eq : ∀ (k : Fin k0_t1_loop.trips) (j : Fin 8), k0_off6 k (BitVec.ofNat 32 j.val) = ![0, 2048 * (min (8 * k.val + j.val + 1) 511 % 8), 0] := by decide +kernel
theorem off8_eq : ∀ (k : Fin k0_t1_loop.trips) (j : Fin 8), k0_off8 k (BitVec.ofNat 32 j.val) = ![0, 256 * (min (8 * k.val + j.val + 1) 511 / 8), 128] := by decide +kernel
theorem off9_eq : ∀ (k : Fin k0_t1_loop.trips) (j : Fin 8), k0_off9 k (BitVec.ofNat 32 j.val) = ![0, 2048 * (min (8 * k.val + j.val + 1) 511 % 8), 128] := by decide +kernel
theorem off11_eq : ∀ (k : Fin k0_t1_loop.trips), k0_off11 k = ![0, 256 * k.val, 0] := by decide +kernel

/-- A load of the query rows of a tile. -/
theorem cut_q (X2 : Vec F S1x16384x256 .bf16) (h n : ℕ) (hh : h < 2) (hn : n < 512) (oq : Fin 3 → ℕ)
    (hoq : ∀ a, oq a + S1x256x128.size a ≤ S1x16384x256.size a) (e : oq = ![0, 256 * (n / 8), 128 * h]) :
    cut X2 oq S1x256x128.size hoq = qTile X2 h n := by
  subst e
  funext x
  refine congrArg X2 (funext fun a => Fin.ext ?_)
  have h1 : (x 1).val < 256 := (x 1).isLt
  have h2 : (x 2).val < 128 := (x 2).isLt
  have h0 : (x 0).val < 1 := (x 0).isLt
  fin_cases a
  · show 0 + 1 * (x 0).val = 0
    omega
  · show 256 * (n / 8) + 1 * (x 1).val = (256 * (n / 8) + (x 1).val) % 16384
    omega
  · show 128 * h + 1 * (x 2).val = (128 * h + (x 2).val) % 256
    omega

/-- A load of the key rows of a tile. -/
theorem cut_k (X3 : Vec F S1x16384x256 .bf16) (h n : ℕ) (hh : h < 2) (ok : Fin 3 → ℕ)
    (hok : ∀ a, ok a + S1x2048x128.size a ≤ S1x16384x256.size a) (e : ok = ![0, 2048 * (n % 8), 128 * h]) :
    cut X3 ok S1x2048x128.size hok = kTile X3 h n := by
  subst e
  funext x
  refine congrArg X3 (funext fun a => Fin.ext ?_)
  have h1 : (x 1).val < 2048 := (x 1).isLt
  have h2 : (x 2).val < 128 := (x 2).isLt
  have h0 : (x 0).val < 1 := (x 0).isLt
  fin_cases a
  · show 0 + 1 * (x 0).val = 0
    omega
  · show 2048 * (n % 8) + 1 * (x 1).val = (2048 * (n % 8) + (x 1).val) % 16384
    omega
  · show 128 * h + 1 * (x 2).val = (128 * h + (x 2).val) % 256
    omega

/-- A load of a block of values. -/
theorem cut_v (X4 : Vec F S1x128x16384 .bf16) (h j u : ℕ) (hh : h < 2) (hj : j < 8) (hu : u < 8) (ov : Fin 3 → ℕ)
    (hov : ∀ a, ov a + S1x64x256.size a ≤ S1x128x16384.size a) (e : ov = ![0, 64 * h, 2048 * j + 256 * u]) :
    cut X4 ov S1x64x256.size hov = vBlk X4 h j u := by
  subst e
  funext x
  refine congrArg X4 (funext fun a => Fin.ext ?_)
  have h1 : (x 1).val < 64 := (x 1).isLt
  have h2 : (x 2).val < 256 := (x 2).isLt
  have h0 : (x 0).val < 1 := (x 0).isLt
  fin_cases a
  · show 0 + 1 * (x 0).val = 0
    omega
  · show 64 * h + 1 * (x 1).val = (64 * h + (x 1).val) % 128
    omega
  · show 2048 * j + 256 * u + 1 * (x 2).val = (2048 * j + 256 * u + (x 2).val) % 16384
    omega

/-- A load of a block of scores. -/
theorem cut_s (X6 : Vec F S2x2x2048x256 .f32) (p h u : ℕ) (w : Vec F S1x1x2048x256 .f32) (H : Holds X6 p h w)
    (hp : p < 2) (hh : h < 2) (hu : u < 8) (hu' : 256 * u ≤ 1792) :
    cut X6 ![p, h, 256 * u, 0] S1x1x256x256.size (inbR hp hh hu') = sBlk w u := by
  funext x
  have h0 : (x 0).val < 1 := (x 0).isLt
  have h1 : (x 1).val < 1 := (x 1).isLt
  have h2 : (x 2).val < 256 := (x 2).isLt
  refine (H _ ?_ ?_).trans (congrArg w ?_)
  · show p + 1 * (x 0).val = p
    omega
  · show h + 1 * (x 1).val = h
    omega
  · funext a
    apply Fin.ext
    fin_cases a
    · rfl
    · rfl
    · show 256 * u + 1 * (x 2).val = (256 * u + (x 2).val) % 2048
      omega
    · show 0 + 1 * (x 3).val = (x 3).val
      omega

end Cert.Attn

end
-- ==== Proof.Steps.lean ====
/-
  The triples of the attention kernel's half step, key tile, trip and loop.
-/
module

public import proofs.«01_k».proof.Proof.TripRun

@[expose] public section

noncomputable section

namespace Cert.Attn

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A program that only returns its value. -/
theorem wp_pure {α : Type} {E : Set ℕ} {c : Dev nD} {P R : sProp 𝕄} {v w : α} (hv : v = w) (h : P ⊢ R) :
    P ⊢ wp frame (wpE (defs₀ (F := F)) Variants.none (c : Thread nD τ) none) E (pure v : Prog (TpuEff nD τ sig (Elt F) Λ₀ .tc) α)
      (fun r => iprop(⌜r = w⌝ ∗ R)) := by
  refine h.trans ?_
  iintro H
  sl_step
  isplitr
  · ipureintro; exact hv
  iexact H

section Steps

variable (c : Dev nD) (arg2 : Memref sig .tc .vmem S1x16384x256 .bf16) (harg2 : arg2.IsWhole) (arg3 : Memref sig .tc .vmem S1x16384x256 .bf16) (harg3 : arg3.IsWhole)
  (arg4 : Memref sig .tc .vmem S1x128x16384 .bf16) (harg4 : arg4.IsWhole) (arg5 : Memref sig .tc .vmem S1x16384x128 .bf16) (harg5 : arg5.IsWhole)
  (arg6 : Memref sig .tc .vmem S2x2x2048x256 .f32) (harg6 : arg6.IsWhole)
  (v0 : FVec F S16x256 .bf16) (v1 : FVec F S1x256 .f32) (v2 : FVec F S80x256 .f32)
  (X2 X3 : Vec F S1x16384x256 .bf16) (X4 : Vec F S1x128x16384 .bf16) (E : Set ℕ)

include harg4 harg6 in
/-- One block, at the place it stands in its tile. -/
theorem subP_blk (mx : FVec F S1x256 .f32) (p h j u : ℕ) (hp : p < 2) (hh : h < 2) (hj : j < 8) (hu : u < 8) (hu' : 256 * u ≤ 1792)
    (ov : Fin 3 → ℕ) (hov : ∀ a, ov a + S1x64x256.size a ≤ S1x128x16384.size a) (e : ov = ![0, 64 * h, 2048 * j + 256 * u])
    (acc : FVec F S80x256 .f32) (X6 : Vec F S2x2x2048x256 .f32) (w : Vec F S1x1x2048x256 .f32) (H : Holds X6 p h w) :
    Mem c arg2 arg3 arg4 arg6 X2 X3 X4 X6 ⊢
      wp frame (wpE (defs₀ (F := F)) Variants.none (c : Thread nD τ) none) E
        (subP arg4 arg6 v0 mx p h (256 * u) hp hh hu' ov hov (blk v0 mx w (vBlk X4 h j) acc u))
        (fun r => iprop(⌜r = blk v0 mx w (vBlk X4 h j) acc (u + 1)⌝ ∗ Mem c arg2 arg3 arg4 arg6 X2 X3 X4 X6)) := by
  have h1 := subP_wp c arg2 arg3 arg4 harg4 arg6 harg6 v0 mx p h (256 * u) hp hh hu' ov hov (blk v0 mx w (vBlk X4 h j) acc u) X2 X3 X4 X6 E
  rw [cut_s X6 p h u w H hp hh hu hu', cut_v X4 h j u hh hj hu ov hov e] at h1
  exact h1

include harg4 harg6 in
theorem subs_wp (mx : FVec F S1x256 .f32) (p h j : ℕ) (hp : p < 2) (hh : h < 2) (hj : j < 8)
    (ov : Fin 8 → Fin 3 → ℕ) (hov : ∀ u a, ov u a + S1x64x256.size a ≤ S1x128x16384.size a)
    (e : ∀ u, ov u = ![0, 64 * h, 2048 * j + 256 * u.val])
    (acc : FVec F S80x256 .f32) (X6 : Vec F S2x2x2048x256 .f32) (w : Vec F S1x1x2048x256 .f32) (H : Holds X6 p h w) :
    Mem c arg2 arg3 arg4 arg6 X2 X3 X4 X6 ⊢
      wp frame (wpE (defs₀ (F := F)) Variants.none (c : Thread nD τ) none) E (subs arg4 arg6 v0 mx p h hp hh ov hov acc)
        (fun r => iprop(⌜r = blk v0 mx w (vBlk X4 h j) acc 8⌝ ∗ Mem c arg2 arg3 arg4 arg6 X2 X3 X4 X6)) := by
  have key := fun (u : Fin 8) hu' => subP_blk c arg2 arg3 arg4 harg4 arg6 harg6 v0 X2 X3 X4 E mx p h j u.val hp hh hj u.isLt hu' (ov u) (hov u) (e u) acc X6 w H
  unfold subs
  exact wp_seq (key 0 (by decide)) <| wp_seq (key 1 (by decide)) <| wp_seq (key 2 (by decide)) <| wp_seq (key 3 (by decide)) <|
    wp_seq (key 4 (by decide)) <| wp_seq (key 5 (by decide)) <| wp_seq (key 6 (by decide)) (key 7 (by decide))

include harg2 harg3 harg4 harg6 in
theorem half_wp (pw p h j n : ℕ) (hpw : pw < 2) (hp : p < 2) (hh : h < 2) (hj : j < 8) (hn : n < 512) (hne : p ≠ pw)
    (oq ok : Fin 3 → ℕ) (hoq : ∀ a, oq a + S1x256x128.size a ≤ S1x16384x256.size a)
    (hok : ∀ a, ok a + S1x2048x128.size a ≤ S1x16384x256.size a)
    (ov : Fin 8 → Fin 3 → ℕ) (hov : ∀ u a, ov u a + S1x64x256.size a ≤ S1x128x16384.size a)
    (eq : oq = ![0, 256 * (n / 8), 128 * h]) (ek : ok = ![0, 2048 * (n % 8), 128 * h])
    (ev : ∀ u, ov u = ![0, 64 * h, 2048 * j + 256 * u.val])
    (m : FVec F S1x256 .f32) (acc : FVec F S80x256 .f32) (cmx : FVec F S1x256 .f32)
    (X6 : Vec F S2x2x2048x256 .f32) (w : Vec F S1x1x2048x256 .f32) (H : Holds X6 p h w) :
    Mem c arg2 arg3 arg4 arg6 X2 X3 X4 X6 ⊢
      wp frame (wpE (defs₀ (F := F)) Variants.none (c : Thread nD τ) none) E
        (half arg2 arg3 arg4 arg6 v0 pw p h hpw hp hh oq ok hoq hok ov hov m acc cmx)
        (fun r => iprop(⌜r = (k0_pay8 m cmx, blk v0 (k0_pay8 m cmx) w (vBlk X4 h j) (k0_pay9 m acc cmx) 8, cm X2 X3 h n)⌝
          ∗ Mem c arg2 arg3 arg4 arg6 X2 X3 X4 (upd X6 pw h (sc X2 X3 h n)))) := by
  have h1 := pre_wp c arg2 harg2 arg3 harg3 arg4 arg6 harg6 pw h hpw hh oq ok hoq hok X2 X3 X4 X6 E
  rw [cut_q X2 h n hh hn oq hoq eq, cut_k X3 h n hh ok hok ek] at h1
  unfold half
  refine wp_seq h1 (wp_seq (subs_wp c arg2 arg3 arg4 harg4 arg6 harg6 v0 X2 X3 X4 E (k0_pay8 m cmx) p h j hp hh hj ov hov ev (k0_pay9 m acc cmx) _ w
    (H.upd_ne fun e => hne e.1)) (wp_pure rfl .rfl))

/-- The state before key tile `j` of query tile `t`: scores of that tile in the scratch half of `j`'s parity. -/
def TileInv (t j : ℕ) : sProp 𝕄 :=
  iprop(∃ X6, ⌜∀ h, h < 2 → Holds X6 (j % 2) h (sc X2 X3 h (min (8 * t + j) 511))⌝ ∗ Mem c arg2 arg3 arg4 arg6 X2 X3 X4 X6)

include harg2 harg3 harg4 harg6 in
theorem tile_wp (k : Fin k0_t1_loop.trips) (j : Fin 8) (pw p : ℕ) (hpw : pw < 2) (hp : p < 2) (ep : p = j.val % 2) (epw : pw = (j.val + 1) % 2) :
    TileInv c arg2 arg3 arg4 arg6 X2 X3 X4 k.val j.val ⊢
      wp frame (wpE (defs₀ (F := F)) Variants.none (c : Thread nD τ) none) E
        (tileP arg2 arg3 arg4 arg6 v0 k j pw p hpw hp (carry v0 v1 v2 X2 X3 X4 k.val j.val))
        (fun r => iprop(⌜r = carry v0 v1 v2 X2 X3 X4 k.val (j.val + 1)⌝ ∗ TileInv c arg2 arg3 arg4 arg6 X2 X3 X4 k.val (j.val + 1))) := by
  rw [TileInv]
  iintro ⟨%X6, %H, HM⟩
  have hk : k.val < 64 := k.isLt
  have hj : j.val < 8 := j.isLt
  have hmin : min (8 * k.val + j.val) 511 = 8 * k.val + j.val := by omega
  have hne : p ≠ pw := by omega
  rw [hmin] at H
  subst ep
  have hn : min (8 * k.val + j.val + 1) 511 < 512 := by omega
  have g0 := half_wp c arg2 harg2 arg3 harg3 arg4 harg4 arg6 harg6 v0 X2 X3 X4 E pw (j.val % 2) 0 j.val _ hpw hp (by decide) hj hn hne _ _ (k0_off5_inb k j) (k0_off6_inb k j) _ (fun u => k0_off7_inb k j u)
    (off5_eq k j) (off6_eq k j) (fun u => off7_eq k j u) (carry v0 v1 v2 X2 X3 X4 k.val j.val).1 (carry v0 v1 v2 X2 X3 X4 k.val j.val).2.1
    (carry v0 v1 v2 X2 X3 X4 k.val j.val).2.2.1 X6 _ (H 0 (by decide))
  have g1 := half_wp c arg2 harg2 arg3 harg3 arg4 harg4 arg6 harg6 v0 X2 X3 X4 E pw (j.val % 2) 1 j.val _ hpw hp (by decide) hj hn hne _ _ (k0_off8_inb k j) (k0_off9_inb k j) _ (fun u => k0_off10_inb k j u)
    (off8_eq k j) (off9_eq k j) (fun u => off10_eq k j u) (carry v0 v1 v2 X2 X3 X4 k.val j.val).2.2.2.1 (carry v0 v1 v2 X2 X3 X4 k.val j.val).2.2.2.2.1
    (carry v0 v1 v2 X2 X3 X4 k.val j.val).2.2.2.2.2 (upd X6 pw 0 (sc X2 X3 0 (min (8 * k.val + j.val + 1) 511))) _ ((H 1 (by decide)).upd_ne fun e => hne e.1)
  have e : ((carry v0 v1 v2 X2 X3 X4 k.val j.val).2.2.1 = cm X2 X3 0 (8 * k.val + j.val)) ∧ ((carry v0 v1 v2 X2 X3 X4 k.val j.val).2.2.2.2.2 = cm X2 X3 1 (8 * k.val + j.val)) := by
    constructor <;> (simp only [carry, hmin])
  have last : Mem c arg2 arg3 arg4 arg6 X2 X3 X4 (upd (upd X6 pw 0 (sc X2 X3 0 (min (8 * k.val + j.val + 1) 511))) pw 1 (sc X2 X3 1 (min (8 * k.val + j.val + 1) 511)))
      ⊢ TileInv c arg2 arg3 arg4 arg6 X2 X3 X4 k.val (j.val + 1) := by
    unfold TileInv
    iintro HM
    iexists _
    isplitr
    rotate_left
    · iexact HM
    ipureintro
    intro h hh
    subst epw
    interval_cases h
    · exact (holds_upd _ _ _ _).upd_ne fun e => absurd e.2 (by decide)
    · exact holds_upd _ _ _ _
  have key : Mem c arg2 arg3 arg4 arg6 X2 X3 X4 X6 ⊢
      wp frame (wpE (defs₀ (F := F)) Variants.none (c : Thread nD τ) none) E
        (tileP arg2 arg3 arg4 arg6 v0 k j pw (j.val % 2) hpw hp (carry v0 v1 v2 X2 X3 X4 k.val j.val))
        (fun r => iprop(⌜r = carry v0 v1 v2 X2 X3 X4 k.val (j.val + 1)⌝ ∗ TileInv c arg2 arg3 arg4 arg6 X2 X3 X4 k.val (j.val + 1))) :=
    wp_seq g0 (wp_seq g1 (wp_pure (by rw [e.1, e.2]; simp only [carry, st, Nat.add_assoc]) last))
  iapply key
  iexact HM

/-- A program before another, beside a resource it does not touch. -/
theorem wp_seq_frame {α β : Type} {E : Set ℕ} {c : Dev nD} {P R O : sProp 𝕄} {p : Prog (TpuEff nD τ sig (Elt F) Λ₀ .tc) α} {v : α}
    {k : α → Prog (TpuEff nD τ sig (Elt F) Λ₀ .tc) β} {Q : β → sProp 𝕄}
    (h1 : P ⊢ wp frame (wpE (defs₀ (F := F)) Variants.none (c : Thread nD τ) none) E p (fun r => iprop(⌜r = v⌝ ∗ R)))
    (h2 : iprop(R ∗ O) ⊢ wp frame (wpE (defs₀ (F := F)) Variants.none (c : Thread nD τ) none) E (k v) Q) :
    iprop(P ∗ O) ⊢ wp frame (wpE (defs₀ (F := F)) Variants.none (c : Thread nD τ) none) E (p >>= k) Q := by
  rw [wp_bind]
  refine (sep_mono_left h1).trans ((wp_frame_r _ _ _).trans (wp_mono _ _ _ fun a => ?_))
  iintro ⟨⟨%h, HR⟩, HO⟩
  subst h
  iapply h2
  isplitl [HR]
  · iexact HR
  iexact HO

/-- The end of a trip: the rows of query tile `k` are stored. -/
def outP (k : Fin k0_t1_loop.trips) (w : FVec F S1x256x128 .bf16) (r : Carry F) : Prog (TpuEff nD τ sig (Elt F) Λ₀ .tc) (Carry F) := do
  let _ : Vec F S1x256x128 .bf16 ← Prog.lift (.load arg5 (Rect.unit (s := S1x16384x128) (k0_off11 k) S1x256x128.size (k0_off11_inb k)).toLoadRect (View.loadsAt_vmem h_S1x256x128))
  Prog.lift (.store arg5 (Rect.unit (s := S1x16384x128) (k0_off11 k) S1x256x128.size (k0_off11_inb k)) w Finset.univ (View.stores_vmem h_S1x256x128 (harg5.storeExact_slice rfl _ (k0_off11_packedbf16 k)) (fun _ => rfl)) (.inl rfl))
  pure r

/-- The output block with its first `n` rows computed. -/
def OutInv (n : ℕ) : sProp 𝕄 :=
  iprop(∃ X5, ⌜∀ y : S1x16384x128.Idx, (y 1).val < n → X5 y = outBlk v0 v1 v2 X2 X3 X4 y⌝ ∗ owns (c : Thread nD τ) arg5 fullShare X5)

theorem out_wp (k : Fin k0_t1_loop.trips) (r : Carry F) :
    OutInv c arg5 v0 v1 v2 X2 X3 X4 (256 * k.val) ⊢
      wp frame (wpE (defs₀ (F := F)) Variants.none (c : Thread nD τ) none) E (outP arg5 harg5 k (rows v0 v1 v2 X2 X3 X4 k.val) r)
        (fun x => iprop(⌜x = r⌝ ∗ OutInv c arg5 v0 v1 v2 X2 X3 X4 (256 * (k.val + 1)))) := by
  unfold OutInv outP owns
  iintro ⟨%X5, %H, ⟨%f5, %hf5, H5⟩⟩
  obtain rfl := harg5.eq_unread hf5
  sl_exec
  sl_step
  isplitr
  · ipureintro; rfl
  iexists (arg5.view.read (Elt F) (arg5.view.writes (Elt F) (harg5.unread X5)
    [⟨Rect.unit (s := S1x16384x128) (k0_off11 k) S1x256x128.size (k0_off11_inb k), rows v0 v1 v2 X2 X3 X4 k.val⟩]))
  isplitr
  rotate_left
  · iexists _
    isplitr
    rotate_left
    · iexact H5
    ipureintro
    rfl
  ipureintro
  intro y hy
  have h0 : (y 0).val < 1 := (y 0).isLt
  by_cases hk : (y 1).val < 256 * k.val
  · refine (View.read_writes_cons_unit_of_not_mem _ _ _ _ _ y (off11_eq k) 1 (.inl hk)).trans ?_
    exact (congrFun (harg5.read_unread X5) y).trans (H y hk)
  · have hd : (y 1).val / 256 = k.val := by omega
    refine (View.read_writes_cons_unit_of_mem _ _ _ _ _ y
      (ix3 (n0 := 1) (n1 := 256) (n2 := 128) 0 ⟨(y 1).val % 256, Nat.mod_lt _ (by decide)⟩ (y 2)) (off11_eq k) ?_).trans ?_
    · intro a
      fin_cases a
      · show (y 0).val = 0 + 0
        omega
      · show (y 1).val = 256 * k.val + (y 1).val % 256
        omega
      · exact (Nat.zero_add _).symm
    · unfold outBlk
      rw [hd]

/-- What holds between the trips. -/
def LoopInv (n : ℕ) (r : Carry F) : sProp 𝕄 :=
  iprop(⌜r = carry v0 v1 v2 X2 X3 X4 n 0⌝ ∗ (TileInv c arg2 arg3 arg4 arg6 X2 X3 X4 n 0 ∗ OutInv c arg5 v0 v1 v2 X2 X3 X4 (256 * n)))

theorem tileInv_next (n : ℕ) : TileInv c arg2 arg3 arg4 arg6 X2 X3 X4 n 8 = TileInv c arg2 arg3 arg4 arg6 X2 X3 X4 (n + 1) 0 := by
  unfold TileInv
  rw [Nat.mul_add, Nat.add_zero]

theorem carry_next (n : ℕ) : ((v1, v2, (carry v0 v1 v2 X2 X3 X4 n 8).2.2.1, v1, v2, (carry v0 v1 v2 X2 X3 X4 n 8).2.2.2.2.2) : Carry F)
    = carry v0 v1 v2 X2 X3 X4 (n + 1) 0 := by
  unfold carry
  rw [Nat.mul_add, Nat.add_zero]
  simp only [st]

include harg2 harg3 harg4 harg6 in
theorem trip_wp (k : Fin k0_t1_loop.trips) (r : Carry F) :
    LoopInv c arg2 arg3 arg4 arg5 arg6 v0 v1 v2 X2 X3 X4 k.val r ⊢
      wp frame (wpE (defs₀ (F := F)) Variants.none (c : Thread nD τ) none) E (tripP arg2 arg3 arg4 arg5 harg5 arg6 v0 v1 v2 k r)
        (LoopInv c arg2 arg3 arg4 arg5 arg6 v0 v1 v2 X2 X3 X4 (k.val + 1)) := by
  unfold LoopInv
  iintro ⟨%hr, H⟩
  subst hr
  have t := fun (j : Fin 8) pw p hpw hp ep epw => tile_wp c arg2 harg2 arg3 harg3 arg4 harg4 arg6 harg6 v0 v1 v2 X2 X3 X4 E k j pw p hpw hp ep epw
  have key : iprop(TileInv c arg2 arg3 arg4 arg6 X2 X3 X4 k.val 0 ∗ OutInv c arg5 v0 v1 v2 X2 X3 X4 (256 * k.val)) ⊢
      wp frame (wpE (defs₀ (F := F)) Variants.none (c : Thread nD τ) none) E (tripP arg2 arg3 arg4 arg5 harg5 arg6 v0 v1 v2 k (carry v0 v1 v2 X2 X3 X4 k.val 0))
        (fun r => iprop(⌜r = carry v0 v1 v2 X2 X3 X4 (k.val + 1) 0⌝ ∗ (TileInv c arg2 arg3 arg4 arg6 X2 X3 X4 (k.val + 1) 0 ∗ OutInv c arg5 v0 v1 v2 X2 X3 X4 (256 * (k.val + 1))))) := by
    refine wp_seq_frame (t 0 1 0 (by decide) (by decide) rfl rfl) <| wp_seq_frame (t 1 0 1 (by decide) (by decide) rfl rfl) <|
      wp_seq_frame (t 2 1 0 (by decide) (by decide) rfl rfl) <| wp_seq_frame (t 3 0 1 (by decide) (by decide) rfl rfl) <|
      wp_seq_frame (t 4 1 0 (by decide) (by decide) rfl rfl) <| wp_seq_frame (t 5 0 1 (by decide) (by decide) rfl rfl) <|
      wp_seq_frame (t 6 1 0 (by decide) (by decide) rfl rfl) <| wp_seq_frame (t 7 0 1 (by decide) (by decide) rfl rfl) ?_
    have o := out_wp c arg5 harg5 v0 v1 v2 X2 X3 X4 E k (v1, v2, (carry v0 v1 v2 X2 X3 X4 k.val 8).2.2.1, v1, v2, (carry v0 v1 v2 X2 X3 X4 k.val 8).2.2.2.2.2)
    rw [carry_next] at o
    show iprop(TileInv c arg2 arg3 arg4 arg6 X2 X3 X4 k.val 8 ∗ OutInv c arg5 v0 v1 v2 X2 X3 X4 (256 * k.val)) ⊢
      wp frame (wpE (defs₀ (F := F)) Variants.none (c : Thread nD τ) none) E (outP arg5 harg5 k (rows v0 v1 v2 X2 X3 X4 k.val)
        (v1, v2, (carry v0 v1 v2 X2 X3 X4 k.val 8).2.2.1, v1, v2, (carry v0 v1 v2 X2 X3 X4 k.val 8).2.2.2.2.2)) _
    rw [carry_next, tileInv_next]
    refine (sep_comm.trans (sep_mono_left o)).trans ((wp_frame_r _ _ _).trans (wp_mono _ _ _ fun a => ?_))
    iintro ⟨⟨%h, HO⟩, HT⟩
    isplitr
    · ipureintro; exact h
    isplitl [HT]
    · iexact HT
    iexact HO
  iapply key
  iexact H

end Steps

end Cert.Attn

end
-- ==== Proof.Body.lean ====
/-
  The attention kernel's body: the scores of the first tile, then the loop; from any contents of the output block and of
  the scratch buffer to the computed output block.
-/
module

public import proofs.«01_k».proof.Proof.Steps

@[expose] public section

noncomputable section

namespace Cert.Attn

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body: the scores of the first tile for both heads, then one trip per query tile. -/
def bodyP (i : grid0.Coords) (arg2 : Memref sig .tc .vmem S1x16384x256 .bf16) (harg2 : arg2.IsWhole) (arg3 : Memref sig .tc .vmem S1x16384x256 .bf16) (harg3 : arg3.IsWhole) (arg4 : Memref sig .tc .vmem S1x128x16384 .bf16) (harg4 : arg4.IsWhole) (arg5 : Memref sig .tc .vmem S1x16384x128 .bf16) (harg5 : arg5.IsWhole) (arg6 : Memref sig .tc .vmem S2x2x2048x256 .f32) (harg6 : arg6.IsWhole) :
    Prog (TpuEff nD τ sig (Elt F) Λ₀ .tc) PUnit := do
  let c0 ← pre arg2 arg3 arg6 0 0 (by decide) (by decide) k0_off1 k0_off2 k0_off1_inb k0_off2_inb
  let c1 ← pre arg2 arg3 arg6 0 1 (by decide) (by decide) k0_off3 k0_off4 k0_off3_inb k0_off4_inb
  let _ ← Scf.Loop.for k0_t1_loop k0_t1_ok ((k0_pay183, k0_pay184, c0, k0_pay183, k0_pay184, c1) : Carry F)
    (k0_t1_body i arg2 harg2 arg3 harg3 arg4 harg4 arg5 harg5 arg6 harg6 k0_pay182 k0_pay183 k0_pay184)
  pure ⟨⟩

set_option maxRecDepth 65536 in
set_option maxHeartbeats 4000000 in
theorem attn_eq (i : grid0.Coords) (arg2 : Memref sig .tc .vmem S1x16384x256 .bf16) (harg2 : arg2.IsWhole) (arg3 : Memref sig .tc .vmem S1x16384x256 .bf16) (harg3 : arg3.IsWhole) (arg4 : Memref sig .tc .vmem S1x128x16384 .bf16) (harg4 : arg4.IsWhole) (arg5 : Memref sig .tc .vmem S1x16384x128 .bf16) (harg5 : arg5.IsWhole) (arg6 : Memref sig .tc .vmem S2x2x2048x256 .f32) (harg6 : arg6.IsWhole) :
    cc0_attn (F := F) i arg2 harg2 arg3 harg3 arg4 harg4 arg5 harg5 arg6 harg6
      = bodyP i arg2 harg2 arg3 harg3 arg4 harg4 arg5 harg5 arg6 harg6 := by
  sl_kernel_rfl

theorem off1_eq : k0_off1 = ![0, 256 * (0 / 8), 128 * 0] := by decide +kernel
theorem off2_eq : k0_off2 = ![0, 2048 * (0 % 8), 128 * 0] := by decide +kernel
theorem off3_eq : k0_off3 = ![0, 256 * (0 / 8), 128 * 1] := by decide +kernel
theorem off4_eq : k0_off4 = ![0, 2048 * (0 % 8), 128 * 1] := by decide +kernel

section Body

variable (c : Dev nD) (i : grid0.Coords) (arg2 : Memref sig .tc .vmem S1x16384x256 .bf16) (harg2 : arg2.IsWhole) (arg3 : Memref sig .tc .vmem S1x16384x256 .bf16) (harg3 : arg3.IsWhole)
  (arg4 : Memref sig .tc .vmem S1x128x16384 .bf16) (harg4 : arg4.IsWhole) (arg5 : Memref sig .tc .vmem S1x16384x128 .bf16) (harg5 : arg5.IsWhole)
  (arg6 : Memref sig .tc .vmem S2x2x2048x256 .f32) (harg6 : arg6.IsWhole)
  (X2 X3 : Vec F S1x16384x256 .bf16) (X4 : Vec F S1x128x16384 .bf16) (E : Set ℕ)

/-- What one grid point's body computes from its three input blocks. -/
def attnOut : FVec F S1x16384x128 .bf16 := outBlk k0_pay182 k0_pay183 k0_pay184 X2 X3 X4

set_option maxRecDepth 16384 in
theorem loop_wp (r : Carry F) :
    LoopInv c arg2 arg3 arg4 arg5 arg6 k0_pay182 k0_pay183 k0_pay184 X2 X3 X4 0 r ⊢
      wp frame (wpE (defs₀ (F := F)) Variants.none (c : Thread nD τ) none) E
        (Scf.Loop.for k0_t1_loop k0_t1_ok r (k0_t1_body i arg2 harg2 arg3 harg3 arg4 harg4 arg5 harg5 arg6 harg6 k0_pay182 k0_pay183 k0_pay184))
        (LoopInv c arg2 arg3 arg4 arg5 arg6 k0_pay182 k0_pay183 k0_pay184 X2 X3 X4 64) := by
  have h : ∀ (k : Fin k0_t1_loop.trips) (acc : Carry F), LoopInv c arg2 arg3 arg4 arg5 arg6 k0_pay182 k0_pay183 k0_pay184 X2 X3 X4 k.val acc ⊢
      wp frame (wpE (defs₀ (F := F)) Variants.none (c : Thread nD τ) none) E (k0_t1_body i arg2 harg2 arg3 harg3 arg4 harg4 arg5 harg5 arg6 harg6 k0_pay182 k0_pay183 k0_pay184 k acc)
        (LoopInv c arg2 arg3 arg4 arg5 arg6 k0_pay182 k0_pay183 k0_pay184 X2 X3 X4 (k.val + 1)) := by
    intro k acc
    rw [body_eq]
    have t := trip_wp c arg2 harg2 arg3 harg3 arg4 harg4 arg5 harg5 arg6 harg6 k0_pay182 k0_pay183 k0_pay184 X2 X3 X4 E k acc

    exact t
  have ht : k0_t1_loop.trips = 64 := by decide +kernel
  refine .trans ?_ (Scf.wp_for _ _ _ _ _ _ k0_t1_ok r _ (LoopInv c arg2 arg3 arg4 arg5 arg6 k0_pay182 k0_pay183 k0_pay184 X2 X3 X4) h)
  iintro H
  isplitl [H]
  · iexact H
  iintro %acc H
  rw [show Scf.trips k0_t1_loop.lb k0_t1_loop.ub k0_t1_loop.st = 64 from ht]
  iexact H

theorem body_wp (X5 : Vec F S1x16384x128 .bf16) (X6 : Vec F S2x2x2048x256 .f32) :
    iprop(Mem c arg2 arg3 arg4 arg6 X2 X3 X4 X6 ∗ owns (c : Thread nD τ) arg5 fullShare X5) ⊢
      wp frame (wpE (defs₀ (F := F)) Variants.none (c : Thread nD τ) none) E
        (cc0_attn i arg2 harg2 arg3 harg3 arg4 harg4 arg5 harg5 arg6 harg6)
        (fun _ => iprop((∃ X6, Mem c arg2 arg3 arg4 arg6 X2 X3 X4 X6) ∗ owns (c : Thread nD τ) arg5 fullShare (attnOut X2 X3 X4))) := by
  rw [attn_eq]
  have g0 := pre_wp c arg2 harg2 arg3 harg3 arg4 arg6 harg6 0 0 (by decide) (by decide) k0_off1 k0_off2 k0_off1_inb k0_off2_inb X2 X3 X4 X6 E
  rw [cut_q X2 0 0 (by decide) (by decide) k0_off1 k0_off1_inb off1_eq, cut_k X3 0 0 (by decide) k0_off2 k0_off2_inb off2_eq] at g0
  have g1 := pre_wp c arg2 harg2 arg3 harg3 arg4 arg6 harg6 0 1 (by decide) (by decide) k0_off3 k0_off4 k0_off3_inb k0_off4_inb X2 X3 X4
    (upd X6 0 0 (k0_pay6 (qTile X2 0 0) (kTile X3 0 0))) E
  rw [cut_q X2 1 0 (by decide) (by decide) k0_off3 k0_off3_inb off3_eq, cut_k X3 1 0 (by decide) k0_off4 k0_off4_inb off4_eq] at g1
  have start : iprop(Mem c arg2 arg3 arg4 arg6 X2 X3 X4 (upd (upd X6 0 0 (k0_pay6 (qTile X2 0 0) (kTile X3 0 0))) 0 1 (k0_pay6 (qTile X2 1 0) (kTile X3 1 0)))
        ∗ owns (c : Thread nD τ) arg5 fullShare X5)
      ⊢ LoopInv c arg2 arg3 arg4 arg5 arg6 k0_pay182 k0_pay183 k0_pay184 X2 X3 X4 0
        (k0_pay183, k0_pay184, k0_pay7 (qTile X2 0 0) (kTile X3 0 0), k0_pay183, k0_pay184, k0_pay7 (qTile X2 1 0) (kTile X3 1 0)) := by
    unfold LoopInv TileInv OutInv
    iintro ⟨HM, H5⟩
    isplitr
    · ipureintro
      rfl
    isplitl [HM]
    · iexists _
      isplitr
      rotate_left
      · iexact HM
      ipureintro
      intro h hh
      interval_cases h
      · exact (holds_upd _ _ _ _).upd_ne fun e => absurd e.2 (by decide)
      · exact holds_upd _ _ _ _
    iexists X5
    isplitr
    · ipureintro
      intro y hy
      exact absurd hy (Nat.not_lt_zero _)
    iexact H5
  refine wp_seq_frame g0 (wp_seq_frame g1 ?_)
  rw [wp_bind]
  refine (start.trans (loop_wp c i arg2 harg2 arg3 harg3 arg4 harg4 arg5 harg5 arg6 harg6 X2 X3 X4 E _)).trans (wp_mono _ _ _ fun a => ?_)
  unfold LoopInv TileInv OutInv
  iintro ⟨-, ⟨%X6, -, HM⟩, ⟨%X5, %h5, H5⟩⟩
  obtain rfl : X5 = attnOut X2 X3 X4 := funext fun y => h5 y (y 1).isLt
  sl_step
  isplitl [HM]
  · iexists _
    iexact HM
  iexact H5

end Body

end Cert.Attn

end
-- ==== Proof.Launch.lean ====
/-
  The launch of the attention kernel: with the body's triple at every grid point, every run ends with the output array
  made of the computed blocks and the arguments unchanged.
-/
module

public import proofs.«01_k».proof.Proof.Body
public import proofs.«01_k».proof.Proof.Gen.KernelIdeal.Frame
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's staging memref at point `t`, and the scratch buffer. -/
abbrev ms0_0 (t : Fin cfg0.N) : Memref sig .tc .vmem S1x16384x256 .bf16 := win0_0.stage (cfg0.slots t 0)
abbrev ms0_1 (t : Fin cfg0.N) : Memref sig .tc .vmem S1x16384x256 .bf16 := win0_1.stage (cfg0.slots t 1)
abbrev ms0_2 (t : Fin cfg0.N) : Memref sig .tc .vmem S1x128x16384 .bf16 := win0_2.stage (cfg0.slots t 2)
abbrev ms0_3 (t : Fin cfg0.N) : Memref sig .tc .vmem S1x16384x128 .bf16 := win0_3.stage (cfg0.slots t 3)
theorem hs0_0 (t : Fin cfg0.N) : (ms0_0 t).IsWhole := hstage0_0 ((cfg0.slots t 0).cast nbuf0_0)
theorem hs0_1 (t : Fin cfg0.N) : (ms0_1 t).IsWhole := hstage0_1 ((cfg0.slots t 1).cast nbuf0_1)
theorem hs0_2 (t : Fin cfg0.N) : (ms0_2 t).IsWhole := hstage0_2 ((cfg0.slots t 2).cast nbuf0_2)
theorem hs0_3 (t : Fin cfg0.N) : (ms0_3 t).IsWhole := hstage0_3 ((cfg0.slots t 3).cast nbuf0_3)
abbrev scM0_0 : Memref sig .tc .vmem S2x2x2048x256 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output block after point `t`. -/
def outsAt0 (c : Dev nD) (t : Fin cfg0.N) : Vec F S1x16384x128 .bf16 := attnOut (iblk m c 0 t) (iblk m c 1 t) (iblk m c 2 t)

/-- The arrays as the region finds them, and what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt0 m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt0 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨%X6, HS0⟩, Hg⟩, Ho, ⟨%d0, H0⟩, ⟨%d1, H1⟩, ⟨%d2, H2⟩, ⟨%d3, H3⟩⟩
  iapply (wp_wand_r _ _ _)
  isplitl [HS0 H0 H1 H2 H3]
  · iapply (body_wp c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) Set.univ _ X6)
    unfold Mem
    isplitr [H3]
    · isplitl [H0]; · iexact H0
      isplitl [H1]; · iexact H1
      isplitl [H2]; · iexact H2
      iexact HS0
    iexact H3
  unfold Mem
  iintro %a ⟨⟨%X6', H0, H1, H2, HS0⟩, H3⟩
  isplitl [HS0 Hg]
  · isplitl [HS0]
    · iexists _; iexact HS0
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter is at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Attn

end
-- ==== Proof.Prefix.lean ====
/-
  The three arrays the attention kernel reads, as functions of the arguments.
-/
module

public import proofs.«01_k».proof.Proof.Launch
public import Idealize.ShloMosaic.PureOps.IdealRules
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.Sem

/-- The two parts of every head side by side, padded to 128 lanes, the heads in a row. -/
def cat (a : FVec Ideal S1x16384x16x64 .f32) (b : FVec Ideal S1x16384x16x32 .f32) : FVec Ideal S1x16384x2048 .bf16 :=
  truncf .bf16 (shapeCast S1x16384x2048 (pad S1x16384x16x128 ![0, 0, 0, 0] ![0, 0, 0, 32] ![0, 0, 0, 0]
    (concatenate S1x16384x16x96 3 [⟨S1x16384x16x64, a⟩, ⟨S1x16384x16x32, b⟩] concatenates_S1x16384x16x64_S1x16384x16x32_S1x16384x16x96_d3)
    (sitofp (F := Ideal) .f32 (constantI S_ 32 0#32)) pads_S1x16384x16x96_S1x16384x16x128_000_000_000_0320 h_S_) shapeCasts_S1x16384x16x128_S1x16384x2048) bitsLt_bf16_f32

/-- The shared key part, once per head. -/
def spread (b : FVec Ideal S1x16384x32 .f32) : FVec Ideal S1x16384x16x32 .f32 :=
  broadcastInDim S1x16384x16x32 ![0, 1, 2, 3] bcast_S1x16384x1x32_S1x16384x16x32_0_1_2_3 (broadcastInDim S1x16384x1x32 ![0, 1, 3] bcast_S1x16384x32_S1x16384x1x32_0_1_3 b)

/-- The values, one row per head and lane. -/
def turned (v : FVec Ideal S1x16384x16x64 .f32) : FVec Ideal S1x1024x16384 .bf16 :=
  truncf .bf16 (transpose S1x1024x16384 [0, 2, 1] (shapeCast S1x16384x1024 v shapeCasts_S1x16384x16x64_S1x16384x1024) transposes_S1x16384x1024_S1x1024x16384_0_2_1) bitsLt_bf16_f32

theorem cat_apply (a : FVec Ideal S1x16384x16x64 .f32) (b : FVec Ideal S1x16384x16x32 .f32) (i : Fin 16384) (e : Fin 2048) :
    cat a b (ix3 0 i e) = if h : e.val % 128 < 64 then a (ix4 0 i ⟨e.val / 128, by omega⟩ ⟨e.val % 128, h⟩)
      else if h : e.val % 128 < 96 then b (ix4 0 i ⟨e.val / 128, by omega⟩ ⟨e.val % 128 - 64, by omega⟩) else 0 := by
  pointwise [cat]
  have z : (FloatOps.sitofp (F := Ideal) .f32 (0#32 : BitVec 32) : EReal) = 0 := by
    show (((0#32 : BitVec 32).toInt : ℝ) : EReal) = 0
    simp
  have hq : e.val / 128 < 16 := by omega
  by_cases h1 : e.val % 128 < 64
  · have h2 : e.val % 128 < 96 := by omega
    simp only [hq, h1, h2, and_self, dite_true]
  · by_cases h2 : e.val % 128 < 96
    · simp only [hq, h1, h2, and_self, dite_true, dite_false]
    · simp only [h1, h2, and_false, dite_false, z]

theorem spread_apply (b : FVec Ideal S1x16384x32 .f32) (i : Fin 16384) (h : Fin 16) (d : Fin 32) :
    spread b (ix4 0 i h d) = b (ix3 0 i d) := by
  pointwise [spread]

theorem turned_apply (v : FVec Ideal S1x16384x16x64 .f32) (e : Fin 1024) (i : Fin 16384) :
    turned v (ix3 0 e i) = v (ix4 0 i ⟨e.val / 64, by omega⟩ ⟨e.val % 64, by omega⟩) := by
  pointwise [turned]

variable (m : (ℓ : Loc nD τ sig) → Buf (Elt Ideal) ℓ)

theorem V_q (c : Dev nD) : V m c main_v3 = cat (m ((c.tc : Thread nD τ).loc main_arg0)) (m ((c.tc : Thread nD τ).loc main_arg1)) := by
  unfold V
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  rfl

theorem V_k (c : Dev nD) : V m c main_v9 = cat (m ((c.tc : Thread nD τ).loc main_arg2)) (spread (m ((c.tc : Thread nD τ).loc main_arg3))) := by
  unfold V
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  rfl

theorem V_v (c : Dev nD) : V m c main_v12 = turned (m ((c.tc : Thread nD τ).loc main_arg4)) := by
  unfold V
  simp only [hostOps0, hostOps0_1, hostOps0_2, hostOps0_3, hostOps0_4, List.flatten_cons, List.flatten_nil, List.append_nil, List.cons_append, List.nil_append]
  after_results
  rfl

end Cert.Attn

end
-- ==== Proof.Reads.lean ====
/-
  The attention kernel's operations read at an index over the extended reals.
-/
module

public import proofs.«01_k».proof.Proof.Body
public import Idealize.ShloMosaic.PureOps.IdealRules
public import Idealize.ShloMosaic.Lib.Pointwise

@[expose] public section

noncomputable section

namespace Cert.Attn

open Cert.KernelIdeal Cert.KernelIdeal.Gen
open Idealize.ShloMosaic Idealize.ShloMosaic.TcCoe Idealize.ShloMosaic.Tactic

/-- The scale of the scores, in base two. -/
def scale2 : ℝ := (Real.sqrt 96)⁻¹ * (Real.log 2)⁻¹

theorem scale2_named : Named.named (F := Ideal) Cert.KernelIdeal.κ "qscale" (φ := .f32) 0x3E16C740#32 = ((scale2 : ℝ) : EReal) :=
  IdealRules.named_const.ideal_named_scalar _ _ _ _ rfl

/-- The products of a query with a key over the 128 lanes of a head. -/
def lanes (q : Vec Ideal S1x256x128 .bf16) (k : Vec Ideal S1x2048x128 .bf16) (r : Fin 2048) (c : Fin 256) : EReal :=
  ∑ d : Fin 128, k (ix3 0 r d) * q (ix3 0 c d)

set_option maxRecDepth 16384 in
theorem pay5_apply (q : Vec Ideal S1x256x128 .bf16) (k : Vec Ideal S1x2048x128 .bf16) (r : Fin 2048) (c : Fin 256) :
    k0_pay5 (F := Ideal) q k (ix2 r c) = lanes q k r c * ((scale2 : ℝ) : EReal) := by
  pointwise [k0_pay5, lanes]
  rw [scale2_named]

set_option maxRecDepth 16384 in
theorem pay6_apply (q : Vec Ideal S1x256x128 .bf16) (k : Vec Ideal S1x2048x128 .bf16) (a b : Fin 1) (r : Fin 2048) (c : Fin 256) :
    k0_pay6 (F := Ideal) q k (ix4 a b r c) = k0_pay5 (F := Ideal) q k (ix2 r c) := by
  pointwise [k0_pay6]

set_option maxRecDepth 16384 in
theorem pay7_apply (q : Vec Ideal S1x256x128 .bf16) (k : Vec Ideal S1x2048x128 .bf16) (a : Fin 1) (c : Fin 256) :
    k0_pay7 (F := Ideal) q k (ix2 a c) = Finset.univ.fold max (Ideal.ofBits .f32 0xFF800000#32) fun r : Fin 2048 => k0_pay5 (F := Ideal) q k (ix2 r c) := by
  pointwise [k0_pay7]

set_option maxRecDepth 16384 in
theorem pay9_apply (m : FVec Ideal S1x256 .f32) (acc : FVec Ideal S80x256 .f32) (cm : FVec Ideal S1x256 .f32) (r : Fin 80) (c : Fin 256) :
    k0_pay9 m acc cm (ix2 r c) = Ideal.exp2 (m (ix2 0 c) - k0_pay8 m cm (ix2 0 c)) * acc (ix2 r c) := by
  pointwise [k0_pay9]
  rfl

set_option maxRecDepth 16384 in
theorem sub_apply (v0 : FVec Ideal S16x256 .bf16) (mx : FVec Ideal S1x256 .f32) (acc : FVec Ideal S80x256 .f32)
    (s : Vec Ideal S1x1x256x256 .f32) (v : Vec Ideal S1x64x256 .bf16) (r : Fin 80) (c : Fin 256) :
    sub v0 mx acc s v (ix2 r c) = acc (ix2 r c) + ∑ k : Fin 256,
      (if h : r.val < 64 then v (ix3 0 ⟨r.val, h⟩ k) else v0 (ix2 ⟨r.val - 64, by omega⟩ k)) * Ideal.exp2 (s (ix4 0 0 k c) - mx (ix2 0 c)) := by
  pointwise [sub]
  rfl

set_option maxRecDepth 16384 in
theorem outTile_apply (a0 a1 : FVec Ideal S80x256 .f32) (i : Fin 1) (r : Fin 256) (d : Fin 128) :
    outTile a0 a1 (ix3 i r d) = (if h : d.val < 64 then Ideal.div (a0 (ix2 ⟨d.val, by omega⟩ r)) (a0 (ix2 64 r))
      else Ideal.div (a1 (ix2 ⟨d.val - 64, by omega⟩ r)) (a1 (ix2 64 r))) := by
  pointwise [outTile, quot]

end Cert.Attn

end
-- ==== Proof.Softmax.lean ====
/-
  The arithmetic of the attention: weights that are powers of two of real scores, running sums rescaled as the running
  maximum grows, and the softmax they add up to.  Values may be infinite, scores are real.
-/
module

public import Idealize.ShloMosaic.PureOps.Ideal

@[expose] public section

noncomputable section

namespace Cert.Softmax

open Idealize.ShloMosaic

variable {ι : Type*}

/-- A nonnegative real factor goes into a sum of extended reals. -/
theorem mul_sum (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of reals read in the extended reals. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The greatest of finitely many reals, taken from `-∞`, is a real. -/
theorem fold_max_real (s : Finset ι) (hs : s.Nonempty) (f : ι → ℝ) :
    ∃ r : ℝ, s.fold max (⊥ : EReal) (fun k => (f k : EReal)) = r := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max (a := f a) (b := r)).symm⟩

/-- A power of two with a real exponent. -/
def pw (x : ℝ) : ℝ := (2 : ℝ) ^ x

theorem pw_pos (x : ℝ) : 0 < pw x := Real.rpow_pos_of_pos two_pos x
theorem pw_add (x y : ℝ) : pw (x + y) = pw x * pw y := Real.rpow_add two_pos x y

theorem exp2_sub (x y : ℝ) : Ideal.exp2 ((x : EReal) - (y : EReal)) = (pw (x - y) : EReal) := by
  rw [← EReal.coe_sub, Ideal.exp2_coe]; rfl

theorem exp2_bot_sub (y : ℝ) : Ideal.exp2 ((⊥ : EReal) - (y : EReal)) = 0 := by
  rw [EReal.bot_sub, Ideal.exp2_bot]

/-- The weighted sum, over the keys below `n`, of values against the weights relative to the shift `M`. -/
def part (s : ℕ → ℝ) (V : ℕ → EReal) (n : ℕ) (M : ℝ) : EReal := ∑ k ∈ Finset.range n, V k * (pw (s k - M) : EReal)

/-- Changing the shift rescales the sum. -/
theorem part_shift (s : ℕ → ℝ) (V : ℕ → EReal) (n : ℕ) (M M' : ℝ) :
    (pw (M - M') : EReal) * part s V n M = part s V n M' := by
  unfold part
  rw [mul_sum _ _ (pw_pos _).le]
  refine Finset.sum_congr rfl fun k _ => ?_
  rw [mul_left_comm, ← EReal.coe_mul, ← pw_add]
  congr 3; ring

/-- One further block of `b` keys. -/
theorem part_block (s : ℕ → ℝ) (V : ℕ → EReal) (n b : ℕ) (M : ℝ) :
    part s V n M + ∑ k : Fin b, V (n + k) * (pw (s (n + k) - M) : EReal) = part s V (n + b) M := by
  unfold part
  rw [Finset.sum_range_add, Fin.sum_univ_eq_sum_range fun k => V (n + k) * (pw (s (n + k) - M) : EReal)]

/-- The weights themselves add up to a positive real. -/
theorem part_one (s : ℕ → ℝ) (n : ℕ) (M : ℝ) :
    part s (fun _ => 1) n M = ((∑ k ∈ Finset.range n, pw (s k - M) : ℝ) : EReal) := by
  unfold part; rw [coe_sum]; simp

/-- The softmax of the real scores `t` over `n` keys, at key `k`. -/
def soft (t : ℕ → ℝ) (n k : ℕ) : ℝ := Real.exp (t k) / ∑ j ∈ Finset.range n, Real.exp (t j)

/-- The sum of the values against the softmax. -/
def attn (t : ℕ → ℝ) (V : ℕ → EReal) (n : ℕ) : EReal := ∑ k ∈ Finset.range n, V k * (soft t n k : EReal)

theorem sum_exp_pos (t : ℕ → ℝ) {n : ℕ} (hn : 0 < n) : 0 < ∑ j ∈ Finset.range n, Real.exp (t j) :=
  Finset.sum_pos (fun _ _ => Real.exp_pos _) ⟨0, Finset.mem_range.mpr hn⟩

/-- Weights relative to any shift, divided by their sum, are the softmax. -/
theorem pw_soft (s t : ℕ → ℝ) (h : ∀ k, Real.log 2 * s k = t k) (M : ℝ) {n : ℕ} (hn : 0 < n) (k : ℕ) :
    pw (s k - M) * (1 / ∑ j ∈ Finset.range n, pw (s j - M)) = soft t n k := by
  have e : ∀ j, pw (s j - M) = Real.exp (t j) * pw (-M) := fun j => by
    rw [sub_eq_add_neg, pw_add]; congr 1
    rw [pw, Real.rpow_def_of_pos two_pos, h]
  simp only [e, ← Finset.sum_mul, soft]
  have := (pw_pos (-M)).ne'
  have := (sum_exp_pos t hn).ne'
  field_simp

theorem exp_soft (t : ℕ → ℝ) (M : ℝ) (n : ℕ) (hn : 0 < n) (k : ℕ) :
    Real.exp (t k - M) * (1 / ∑ j ∈ Finset.range n, Real.exp (t j - M)) = soft t n k := by
  simp only [Real.exp_sub, ← Finset.sum_div, soft]
  have := (Real.exp_pos M).ne'
  have := (sum_exp_pos t hn).ne'
  field_simp

/-- The quotient of the two running sums is the attention. -/
theorem part_div (s t : ℕ → ℝ) (h : ∀ k, Real.log 2 * s k = t k) (V : ℕ → EReal) (M : ℝ) {n : ℕ} (hn : 0 < n) :
    Ideal.div (part s V n M) (part s (fun _ => 1) n M) = attn t V n := by
  have hp : 0 < ∑ k ∈ Finset.range n, pw (s k - M) :=
    Finset.sum_pos (fun _ _ => pw_pos _) ⟨0, Finset.mem_range.mpr hn⟩
  rw [part_one, Ideal.div_coe hp.ne', mul_comm, part, mul_sum _ _ (one_div_pos.mpr hp).le, attn]
  refine Finset.sum_congr rfl fun k _ => ?_
  rw [mul_left_comm, ← EReal.coe_mul, mul_comm (1 / _), pw_soft s t h M hn]

end Cert.Softmax

end
-- ==== Proof.Scores.lean ====
/-
  The running sums of the attention kernel, when the scores of a query are real: after each key tile they are sums
  shifted by some real number, and their quotient after the last tile is the attention of the query.
-/
module

public import proofs.«01_k».proof.Proof.Reads
public import proofs.«01_k».proof.Proof.Softmax

@[expose] public section

noncomputable section

namespace Cert.Attn

open Cert.KernelIdeal Cert.KernelIdeal.Gen Cert.Softmax
open Idealize.ShloMosaic Idealize.ShloMosaic.TcCoe Idealize.ShloMosaic.Tactic

/-- Entry `k` of value row `r` of head `h`; the rows after the 64 of the head hold ones. -/
def val (X4 : Vec Ideal S1x128x16384 .bf16) (h r k : ℕ) : EReal :=
  if r < 64 then X4 (ix3 0 ⟨(64 * h + r) % 128, Nat.mod_lt _ (by decide)⟩ ⟨k % 16384, Nat.mod_lt _ (by decide)⟩) else 1

theorem ofBits_neg_inf : Ideal.ofBits .f32 0xFF800000#32 = (⊥ : EReal) := by
  simp [Ideal.ofBits, Ideal.ieee, -EReal.coe_mul]

variable (X2 X3 : Vec Ideal S1x16384x256 .bf16) (X4 : Vec Ideal S1x128x16384 .bf16) (h t : ℕ) (c : Fin 256) (s : ℕ → ℝ)

/-- The scores of query `c` of tile `t` are the reals `s`. -/
def RealScores : Prop := ∀ j < 8, ∀ r : Fin 2048,
  k0_pay5 (F := Ideal) (qTile X2 h (8 * t + j)) (kTile X3 h (8 * t + j)) (ix2 r c) = ((s (2048 * j + r.val) : ℝ) : EReal)

variable {X2 X3 X4 h t c s}

set_option maxRecDepth 16384 in
theorem v0_apply (r : Fin 16) (k : Fin 256) : k0_pay182 (F := Ideal) (ix2 r k) = 1 := by
  pointwise [k0_pay182]

set_option maxRecDepth 16384 in
theorem v1_apply (a : Fin 1) (k : Fin 256) : k0_pay183 (F := Ideal) (ix2 a k) = ⊥ := by
  pointwise [k0_pay183]
  exact ofBits_neg_inf

set_option maxRecDepth 16384 in
theorem v2_apply (r : Fin 80) (k : Fin 256) : k0_pay184 (F := Ideal) (ix2 r k) = 0 := by
  pointwise [k0_pay184]

set_option maxRecDepth 16384 in
theorem pay8_apply (m cm : FVec Ideal S1x256 .f32) (k : Fin 256) : k0_pay8 m cm (ix2 0 k) = max (m (ix2 0 k)) (cm (ix2 0 k)) := by
  pointwise [k0_pay8]

set_option maxRecDepth 16384 in
theorem blk_part (hs : RealScores X2 X3 h t c s) {j : ℕ} (hj : j < 8) (mx : FVec Ideal S1x256 .f32) (acc : FVec Ideal S80x256 .f32)
    (M : ℝ) (hM : mx (ix2 0 c) = (M : EReal)) (r : Fin 80) (hacc : acc (ix2 r c) = part s (val X4 h r.val) (2048 * j) M) :
    ∀ u ≤ 8, blk (k0_pay182 (F := Ideal)) mx (sc X2 X3 h (8 * t + j)) (vBlk X4 h j) acc u (ix2 r c) = part s (val X4 h r.val) (2048 * j + 256 * u) M
  | 0, _ => hacc
  | u + 1, hu => by
    rw [blk, sub_apply, blk_part hs hj mx acc M hM r hacc u (by omega), hM, show 2048 * j + 256 * (u + 1) = 2048 * j + 256 * u + 256 by ring,
      ← part_block s (val X4 h r.val) (2048 * j + 256 * u) 256 M]
    congr 1
    refine Finset.sum_congr rfl fun k _ => ?_
    have e : sBlk (sc X2 X3 h (8 * t + j)) u (ix4 0 0 k c) = ((s (2048 * j + 256 * u + k.val) : ℝ) : EReal) := by
      have := hs j hj ⟨256 * u + k.val, by omega⟩
      rw [show 2048 * j + 256 * u + k.val = 2048 * j + (256 * u + k.val) by ring, ← this, ← pay6_apply _ _ 0 0]
      have e2 : (256 * u + k.val) % 2048 = 256 * u + k.val := Nat.mod_eq_of_lt (by omega)
      show sc X2 X3 h (8 * t + j) _ = _
      unfold sc
      congr 1
      rw [ix4_eq_valueIdx]
      congr 1
      exact Fin.ext e2
    rw [e, exp2_sub]
    congr 1
    unfold val
    split_ifs with hr
    · show X4 _ = X4 _
      congr 1
    · exact v0_apply _ _

set_option maxRecDepth 16384 in
theorem cm_real (hs : RealScores X2 X3 h t c s) {j : ℕ} (hj : j < 8) : ∃ M : ℝ, cm X2 X3 h (8 * t + j) (ix2 0 c) = (M : EReal) := by
  unfold cm
  rw [pay7_apply, ofBits_neg_inf]
  simp only [hs j hj]
  exact fold_max_real Finset.univ Finset.univ_nonempty _

set_option maxRecDepth 16384 in
theorem st_succ (hs : RealScores X2 X3 h t c s) {j : ℕ} (hj : j < 8)
    (ih : (j = 0) ∨ ∃ M : ℝ, (st (k0_pay182 (F := Ideal)) k0_pay183 k0_pay184 X2 X3 X4 h t j).1 (ix2 0 c) = (M : EReal)
      ∧ ∀ r : Fin 80, (st (k0_pay182 (F := Ideal)) k0_pay183 k0_pay184 X2 X3 X4 h t j).2 (ix2 r c) = part s (val X4 h r.val) (2048 * j) M) :
    ∃ M : ℝ, (st (k0_pay182 (F := Ideal)) k0_pay183 k0_pay184 X2 X3 X4 h t (j + 1)).1 (ix2 0 c) = (M : EReal)
      ∧ ∀ r : Fin 80, (st (k0_pay182 (F := Ideal)) k0_pay183 k0_pay184 X2 X3 X4 h t (j + 1)).2 (ix2 r c) = part s (val X4 h r.val) (2048 * (j + 1)) M := by
  obtain ⟨C, hC⟩ := cm_real hs hj
  have key : ∃ M : ℝ, k0_pay8 (st (k0_pay182 (F := Ideal)) k0_pay183 k0_pay184 X2 X3 X4 h t j).1 (cm X2 X3 h (8 * t + j)) (ix2 0 c) = (M : EReal)
      ∧ ∀ r : Fin 80, k0_pay9 (st (k0_pay182 (F := Ideal)) k0_pay183 k0_pay184 X2 X3 X4 h t j).1 (st (k0_pay182 (F := Ideal)) k0_pay183 k0_pay184 X2 X3 X4 h t j).2
        (cm X2 X3 h (8 * t + j)) (ix2 r c) = part s (val X4 h r.val) (2048 * j) M := by
    rcases ih with rfl | ⟨M, h1, h2⟩
    · refine ⟨C, ?_, fun r => ?_⟩
      · rw [pay8_apply, hC]
        show max (k0_pay183 (F := Ideal) (ix2 0 c)) _ = _
        rw [v1_apply, max_bot_left]
      · rw [pay9_apply, pay8_apply, hC]
        show Ideal.exp2 (k0_pay183 (F := Ideal) (ix2 0 c) - max (k0_pay183 (F := Ideal) (ix2 0 c)) _) * k0_pay184 (F := Ideal) (ix2 r c) = _
        rw [v2_apply, mul_zero]
        simp [part]
    · refine ⟨max M C, ?_, fun r => ?_⟩
      · rw [pay8_apply, hC, h1]
        exact (EReal.coe_strictMono.monotone.map_max (a := M) (b := C)).symm
      · rw [pay9_apply, pay8_apply, hC, h1, h2, ← (EReal.coe_strictMono.monotone.map_max (a := M) (b := C)), exp2_sub, part_shift]
  obtain ⟨M, h1, h2⟩ := key
  refine ⟨M, h1, fun r => ?_⟩
  exact (blk_part hs hj _ _ M h1 r (h2 r) 8 le_rfl).trans (by ring_nf)

theorem st_part (hs : RealScores X2 X3 h t c s) : ∀ j < 8,
    ∃ M : ℝ, (st (k0_pay182 (F := Ideal)) k0_pay183 k0_pay184 X2 X3 X4 h t (j + 1)).1 (ix2 0 c) = (M : EReal)
      ∧ ∀ r : Fin 80, (st (k0_pay182 (F := Ideal)) k0_pay183 k0_pay184 X2 X3 X4 h t (j + 1)).2 (ix2 r c) = part s (val X4 h r.val) (2048 * (j + 1)) M
  | 0, hj => st_succ hs hj (.inl rfl)
  | j + 1, hj => st_succ hs hj (.inr (st_part hs j (by omega)))

/-- The quotient of a value row's sum by the sum of the row of ones is the attention. -/
theorem st_quot (hs : RealScores X2 X3 h t c s) (u : ℕ → ℝ) (hu : ∀ k, Real.log 2 * s k = u k) (d : Fin 64) :
    Ideal.div ((st (k0_pay182 (F := Ideal)) k0_pay183 k0_pay184 X2 X3 X4 h t 8).2 (ix2 ⟨d.val, by omega⟩ c))
      ((st (k0_pay182 (F := Ideal)) k0_pay183 k0_pay184 X2 X3 X4 h t 8).2 (ix2 64 c)) = attn u (val X4 h d.val) 16384 := by
  obtain ⟨M, _, h2⟩ := st_part (X4 := X4) hs 7 (by decide)
  rw [h2, h2, ← part_div s u hu _ M (by decide)]
  congr 1

end Cert.Attn

end
-- ==== Proof.Result.lean ====
/-
  The kernel's result array as a function of the arrays it reads.
-/
module

public import proofs.«01_k».proof.Proof.Prefix
public import proofs.«01_k».proof.Proof.Scores
public import Idealize.ShloMosaic.Lib.Pipeline.ValueKit.Geometry

@[expose] public section

set_option maxRecDepth 16384

noncomputable section

namespace Cert.Attn

open Cert.KernelIdeal Cert.KernelIdeal.Gen
open Idealize.ShloMosaic Idealize.ShloMosaic.TcCoe Idealize.ShloMosaic.Tactic Idealize.ShloMosaic.ValueKit
open Idealize.SL Idealize.SL.Sem

/-- The columns of head pair `p`. -/
def colBlk (X : FVec Ideal S1x16384x2048 .bf16) (p : ℕ) : Vec Ideal S1x16384x256 .bf16 := fun x =>
  X (ix3 0 (x 1) ⟨(256 * p + (x 2).val) % 2048, Nat.mod_lt _ (by decide)⟩)

/-- The rows of head pair `p`. -/
def rowBlk (X : FVec Ideal S1x1024x16384 .bf16) (p : ℕ) : Vec Ideal S1x128x16384 .bf16 := fun x =>
  X (ix3 0 ⟨(128 * p + (x 1).val) % 1024, Nat.mod_lt _ (by decide)⟩ (x 2))

/-- The result array: every head pair's block side by side. -/
def pairs (Q K : FVec Ideal S1x16384x2048 .bf16) (W : FVec Ideal S1x1024x16384 .bf16) : FVec Ideal S1x16384x1024 .bf16 := fun y =>
  attnOut (colBlk Q ((y 2).val / 128)) (colBlk K ((y 2).val / 128)) (rowBlk W ((y 2).val / 128))
    (ix3 0 (y 1) ⟨(y 2).val % 128, Nat.mod_lt _ (by decide)⟩)

theorem index0 : ∀ t : Fin cfg0.N, win0_0.index t = ![0, 0, t.val] := (by decide +kernel : ∀ t : Fin grid0.N, _)
theorem index1 : ∀ t : Fin cfg0.N, win0_1.index t = ![0, 0, t.val] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, 0, t.val] := (by decide +kernel : ∀ t : Fin grid0.N, _)

variable (m : (ℓ : Loc nD τ sig) → Buf (Elt Ideal) ℓ)

theorem tlt (t : Fin cfg0.N) : t.val < 8 := lt_of_lt_of_eq t.isLt N_0

theorem read0_eq (A : (Pipeline.arrRef spec0 0).ty.Contents (Elt Ideal)) (t : Fin cfg0.N) : ((cfg0.win 0).blk t).view.read (Elt Ideal) A = colBlk A t.val := by
  have ht := tlt t
  funext y
  blk_simp
  unfold colBlk
  congr 1
  idx_bounds y
  blk_ext [index0]

theorem iblk0_eq (c : Dev nD) (t : Fin cfg0.N) : iblk m c 0 t = colBlk (V m c main_v3) t.val := read0_eq (V m c main_v3) t

theorem read1_eq (A : (Pipeline.arrRef spec0 1).ty.Contents (Elt Ideal)) (t : Fin cfg0.N) : ((cfg0.win 1).blk t).view.read (Elt Ideal) A = colBlk A t.val := by
  have ht := tlt t
  funext y
  blk_simp
  unfold colBlk
  congr 1
  idx_bounds y
  blk_ext [index1]

theorem iblk1_eq (c : Dev nD) (t : Fin cfg0.N) : iblk m c 1 t = colBlk (V m c main_v9) t.val := read1_eq (V m c main_v9) t

theorem read2_eq (A : (Pipeline.arrRef spec0 2).ty.Contents (Elt Ideal)) (t : Fin cfg0.N) : ((cfg0.win 2).blk t).view.read (Elt Ideal) A = rowBlk A t.val := by
  have ht := tlt t
  funext y
  blk_simp
  unfold rowBlk
  congr 1
  idx_bounds y
  blk_ext [index2]

theorem iblk2_eq (c : Dev nD) (t : Fin cfg0.N) : iblk m c 2 t = rowBlk (V m c main_v12) t.val := read2_eq (V m c main_v12) t

theorem final (c : Dev nD) : (dats m 0 c).arrAt 3 cfg0.N = pairs (V m c main_v3) (V m c main_v9) (V m c main_v12) := by
  refine (dats m 0 c).arrAt_eq_of_covers 3 _ (by decide +kernel) fun t hf y => ?_
  have ht := tlt t
  blk_simp
  rw [after0_3]
  have h : outsAt0 m c t = attnOut (iblk m c 0 t) (iblk m c 1 t) (iblk m c 2 t) := rfl
  rw [h, iblk0_eq, iblk1_eq, iblk2_eq]
  idx_bounds y
  have e2 : ((win0_3.blk t).view.emb y 2 : ℕ) = 128 * t.val + (y 2).val := by blk_simp [index3]; omega
  have e3 : ((win0_3.blk t).view.emb y 2 : ℕ) / 128 = t.val := by omega
  unfold pairs
  rw [e3]
  congr 1
  blk_ext [index3]

theorem result_loc (c : Dev nD) : (((cfgs 0).spec 3).arr.view.loc (c.tc : Thread nD τ)) = (c.tc : Thread nD τ).loc main_v13 := rfl

/-- The run: the result array as a function of the arguments. -/
theorem run_result (ρ : Dev nD → PrngReg) : θ_run defs (onTc (τ := τ) (main (F := Ideal))) ⟨m, fun _ => 0, ρ⟩ (fun r => ∀ c : Dev nD,
    r.2.mem ((c.tc : Thread nD τ).loc main_v13) = pairs
      (cat (m ((c.tc : Thread nD τ).loc main_arg0)) (m ((c.tc : Thread nD τ).loc main_arg1)))
      (cat (m ((c.tc : Thread nD τ).loc main_arg2)) (spread (m ((c.tc : Thread nD τ).loc main_arg3))))
      (turned (m ((c.tc : Thread nD τ).loc main_arg4)))) :=
  (θ_run defs _ _).mono (fun r h c => by
    have e := (Pipeline.FramePost.out_eq h c 3).trans (final m c)
    rw [V_q, V_k, V_v] at e
    exact e) (run_main m ρ)

end Cert.Attn

end
-- ==== Proof.Value.lean ====
/-
  The result array at an index, when the queries and the keys are real: the attention of a query with the values.
-/
module

public import proofs.«01_k».proof.Proof.Result

@[expose] public section

set_option maxRecDepth 16384

noncomputable section

namespace Cert.Attn

open Cert.KernelIdeal Cert.KernelIdeal.Gen Cert.Softmax
open Idealize.ShloMosaic Idealize.ShloMosaic.TcCoe Idealize.ShloMosaic.Tactic

theorem attnOut_apply (X2 X3 : Vec Ideal S1x16384x256 .bf16) (X4 : Vec Ideal S1x128x16384 .bf16) (i : Fin 16384) (l : Fin 128) (s u : ℕ → ℝ)
    (hs : RealScores X2 X3 (l.val / 64) (i.val / 256) ⟨i.val % 256, Nat.mod_lt _ (by decide)⟩ s) (hu : ∀ k, Real.log 2 * s k = u k) :
    attnOut X2 X3 X4 (ix3 0 i l) = attn u (val X4 (l.val / 64) (l.val % 64)) 16384 := by
  show outTile (st (k0_pay182 (F := Ideal)) k0_pay183 k0_pay184 X2 X3 X4 0 (i.val / 256) 8).2 (st (k0_pay182 (F := Ideal)) k0_pay183 k0_pay184 X2 X3 X4 1 (i.val / 256) 8).2
    (ix3 0 ⟨i.val % 256, Nat.mod_lt _ (by decide)⟩ l) = _
  rw [outTile_apply]
  split_ifs with h
  · have e : l.val / 64 = 0 := by omega
    have e2 : l.val % 64 = l.val := by omega
    rw [e] at hs ⊢
    rw [e2]
    exact st_quot hs u hu ⟨l.val, h⟩
  · have e : l.val / 64 = 1 := by omega
    have e2 : l.val % 64 = l.val - 64 := by omega
    rw [e] at hs ⊢
    rw [e2]
    exact st_quot hs u hu ⟨l.val - 64, by omega⟩

/-- Lane `d` of head `h` of a row: its two parts, then zeros. -/
def lane (ra : S1x16384x16x64.Idx → ℝ) (rb : S1x16384x16x32.Idx → ℝ) (i : Fin 16384) (h : Fin 16) (d : ℕ) : ℝ :=
  if hd : d < 64 then ra (ix4 0 i h ⟨d, hd⟩) else if hd : d < 96 then rb (ix4 0 i h ⟨d - 64, by omega⟩) else 0

theorem cat_real (ra : S1x16384x16x64.Idx → ℝ) (rb : S1x16384x16x32.Idx → ℝ) (i : Fin 16384) (e : Fin 2048) :
    cat (fun x => (ra x : EReal)) (fun x => (rb x : EReal)) (ix3 0 i e) = (lane ra rb i ⟨e.val / 128, by omega⟩ (e.val % 128) : EReal) := by
  rw [cat_apply]
  unfold lane
  split_ifs <;> rfl

/-- The score of a query with a key, before the scale. -/
def score (r0 : S1x16384x16x64.Idx → ℝ) (r1 : S1x16384x16x32.Idx → ℝ) (r2 : S1x16384x16x64.Idx → ℝ) (r3 : S1x16384x16x32.Idx → ℝ)
    (h : Fin 16) (i k : Fin 16384) : ℝ :=
  (∑ d : Fin 64, r0 (ix4 0 i h d) * r2 (ix4 0 k h d)) + ∑ d : Fin 32, r3 (ix4 0 k h d) * r1 (ix4 0 i h d)

theorem score_lanes (r0 : S1x16384x16x64.Idx → ℝ) (r1 : S1x16384x16x32.Idx → ℝ) (r2 : S1x16384x16x64.Idx → ℝ) (r3 : S1x16384x16x32.Idx → ℝ)
    (h : Fin 16) (i k : Fin 16384) : ∑ d : Fin 128, lane r2 r3 k h d.val * lane r0 r1 i h d.val = score r0 r1 r2 r3 h i k := by
  rw [← Finset.sum_range (fun d => lane r2 r3 k h d * lane r0 r1 i h d), show (128 : ℕ) = 64 + 32 + 32 by norm_num, Finset.sum_range_add, Finset.sum_range_add]
  have z : ∑ x ∈ Finset.range 32, lane r2 r3 k h (64 + 32 + x) * lane r0 r1 i h (64 + 32 + x) = 0 :=
    Finset.sum_eq_zero fun x _ => by
      unfold lane
      rw [dif_neg (by omega), dif_neg (by omega), zero_mul]
  rw [z, add_zero, Finset.sum_range, Finset.sum_range]
  unfold score
  congr 1
  · refine Finset.sum_congr rfl fun d _ => ?_
    unfold lane
    rw [dif_pos d.isLt, dif_pos d.isLt, mul_comm]

variable (r0 : S1x16384x16x64.Idx → ℝ) (r1 : S1x16384x16x32.Idx → ℝ) (r2 : S1x16384x16x64.Idx → ℝ) (r3 : S1x16384x16x32.Idx → ℝ)

theorem lanes_real (p : Fin 8) (l : Fin 2) (t : Fin 64) (j : Fin 8) (r : Fin 2048) (c : Fin 256) :
    lanes (qTile (colBlk (cat (fun x => (r0 x : EReal)) (fun x => (r1 x : EReal))) p.val) l.val (8 * t.val + j.val))
      (kTile (colBlk (cat (fun x => (r2 x : EReal)) (fun x => (r3 x : EReal))) p.val) l.val (8 * t.val + j.val)) r c
      = (score r0 r1 r2 r3 ⟨2 * p.val + l.val, by omega⟩ ⟨256 * t.val + c.val, by omega⟩ ⟨2048 * j.val + r.val, by omega⟩ : EReal) := by
  unfold lanes
  rw [← score_lanes, Softmax.coe_sum]
  refine Finset.sum_congr rfl fun d _ => ?_
  have e : (256 * p.val + (128 * l.val + d.val) % 256) % 2048 = 256 * p.val + 128 * l.val + d.val := by omega
  have hk : kTile (colBlk (cat (fun x => (r2 x : EReal)) (fun x => (r3 x : EReal))) p.val) l.val (8 * t.val + j.val) (ix3 0 r d)
      = (lane r2 r3 ⟨2048 * j.val + r.val, by omega⟩ ⟨2 * p.val + l.val, by omega⟩ d.val : EReal) := by
    have e1 : (2048 * ((8 * t.val + j.val) % 8) + r.val) % 16384 = 2048 * j.val + r.val := by omega
    refine Eq.trans (b := cat (fun x => (r2 x : EReal)) (fun x => (r3 x : EReal)) (ix3 0 ⟨2048 * j.val + r.val, by omega⟩ ⟨256 * p.val + 128 * l.val + d.val, by omega⟩)) ?_ ?_
    · show cat _ _ (ix3 0 ⟨(2048 * ((8 * t.val + j.val) % 8) + r.val) % 16384, _⟩ ⟨(256 * p.val + (128 * l.val + d.val) % 256) % 2048, _⟩) = _
      simp only [e, e1]
    · rw [cat_real]
      have a1 : (256 * p.val + 128 * l.val + d.val) / 128 = 2 * p.val + l.val := by omega
      have a2 : (256 * p.val + 128 * l.val + d.val) % 128 = d.val := by omega
      simp only [a1, a2]
  have hq : qTile (colBlk (cat (fun x => (r0 x : EReal)) (fun x => (r1 x : EReal))) p.val) l.val (8 * t.val + j.val) (ix3 0 c d)
      = (lane r0 r1 ⟨256 * t.val + c.val, by omega⟩ ⟨2 * p.val + l.val, by omega⟩ d.val : EReal) := by
    have e1 : (256 * ((8 * t.val + j.val) / 8) + c.val) % 16384 = 256 * t.val + c.val := by omega
    refine Eq.trans (b := cat (fun x => (r0 x : EReal)) (fun x => (r1 x : EReal)) (ix3 0 ⟨256 * t.val + c.val, by omega⟩ ⟨256 * p.val + 128 * l.val + d.val, by omega⟩)) ?_ ?_
    · show cat _ _ (ix3 0 ⟨(256 * ((8 * t.val + j.val) / 8) + c.val) % 16384, _⟩ ⟨(256 * p.val + (128 * l.val + d.val) % 256) % 2048, _⟩) = _
      simp only [e, e1]
    · rw [cat_real]
      have a1 : (256 * p.val + 128 * l.val + d.val) / 128 = 2 * p.val + l.val := by omega
      have a2 : (256 * p.val + 128 * l.val + d.val) % 128 = d.val := by omega
      simp only [a1, a2]
  rw [hk, hq, EReal.coe_mul]

/-- The scores of a query, of every key number. -/
def scoreN (h : Fin 16) (i : Fin 16384) (k : ℕ) : ℝ := score r0 r1 r2 r3 h i ⟨k % 16384, Nat.mod_lt _ (by decide)⟩

theorem log_scale2 : Real.log 2 * scale2 = 1 / Real.sqrt 96 := by
  have : Real.log 2 ≠ 0 := (Real.log_pos one_lt_two).ne'
  unfold scale2
  field_simp

/-- The kernel's result at an index. -/
theorem pairs_apply (a4 : FVec Ideal S1x16384x16x64 .f32) (i : Fin 16384) (e : Fin 1024) :
    pairs (cat (fun x => (r0 x : EReal)) (fun x => (r1 x : EReal))) (cat (fun x => (r2 x : EReal)) (fun x => (r3 x : EReal))) (turned a4) (ix3 0 i e)
      = attn (fun k => scoreN r0 r1 r2 r3 ⟨e.val / 64, by omega⟩ i k / Real.sqrt 96)
          (fun k => a4 (ix4 0 ⟨k % 16384, Nat.mod_lt _ (by decide)⟩ ⟨e.val / 64, by omega⟩ ⟨e.val % 64, by omega⟩)) 16384 := by
  refine (attnOut_apply (colBlk (cat (fun x => (r0 x : EReal)) (fun x => (r1 x : EReal))) (e.val / 128))
    (colBlk (cat (fun x => (r2 x : EReal)) (fun x => (r3 x : EReal))) (e.val / 128)) (rowBlk (turned a4) (e.val / 128)) i ⟨e.val % 128, Nat.mod_lt _ (by decide)⟩
    (fun k => scoreN r0 r1 r2 r3 ⟨e.val / 64, by omega⟩ i k * scale2) (fun k => scoreN r0 r1 r2 r3 ⟨e.val / 64, by omega⟩ i k / Real.sqrt 96)
    (fun j hj r => ?_) (fun k => ?_)).trans ?_
  · rw [pay5_apply]
    have hl := lanes_real r0 r1 r2 r3 ⟨e.val / 128, by omega⟩ ⟨e.val % 128 / 64, by omega⟩ ⟨i.val / 256, by omega⟩ ⟨j, hj⟩ r ⟨i.val % 256, by omega⟩
    simp only at hl
    rw [hl, EReal.coe_mul]
    congr 2
    unfold scoreN
    have a1 : 2 * (e.val / 128) + e.val % 128 / 64 = e.val / 64 := by omega
    have a2 : 256 * (i.val / 256) + i.val % 256 = i.val := by omega
    have a3 : (2048 * j + r.val) % 16384 = 2048 * j + r.val := by omega
    simp only [a1, a2, a3]
  · rw [show Real.log 2 * (scoreN r0 r1 r2 r3 ⟨e.val / 64, by omega⟩ i k * scale2) = scoreN r0 r1 r2 r3 ⟨e.val / 64, by omega⟩ i k * (Real.log 2 * scale2) by ring,
      log_scale2, mul_one_div]
  · congr 1
    funext k
    unfold val
    have hlt : (⟨e.val % 128, Nat.mod_lt _ (by decide)⟩ : Fin 128).val % 64 < 64 := Nat.mod_lt _ (by decide)
    rw [if_pos hlt]
    show turned a4 (ix3 0 ⟨(128 * (e.val / 128) + (64 * (e.val % 128 / 64) + e.val % 128 % 64) % 128) % 1024, _⟩ ⟨k % 16384, _⟩) = _
    have a1 : (128 * (e.val / 128) + (64 * (e.val % 128 / 64) + e.val % 128 % 64) % 128) % 1024 = e.val := by omega
    rw [turned_apply]
    simp only [a1]

end Cert.Attn

end
-- ==== Proof.RefRead.lean ====
/-
  The reference's result read at an index over the extended reals.
-/
module

public import proofs.«01_k».proof.Proof.Gen.ReferenceIdeal.Run
public import Idealize.ShloMosaic.PureOps.IdealRules
public import Idealize.ShloMosaic.Lib.Pointwise

@[expose] public section

set_option maxRecDepth 16384

noncomputable section

namespace Cert.Ref

open Cert.ReferenceIdeal Cert.ReferenceIdeal.Gen
open Idealize.ShloMosaic Idealize.ShloMosaic.TcCoe Idealize.ShloMosaic.Tactic
open Idealize.SL Idealize.SL.Sem

variable (a0 : FVec Ideal S1x16384x16x64 .f32) (a1 : FVec Ideal S1x16384x16x32 .f32) (a2 : FVec Ideal S1x16384x16x64 .f32)
  (a3 : FVec Ideal S1x16384x32 .f32) (a4 : FVec Ideal S1x16384x16x64 .f32)

/-- The scores. -/
def scores : FVec Ideal S1x16x16384x16384 .f32 :=
  Host.divf (addf (Host.dotGeneral dot_S1x16384x16x64_S1x16384x16x64_S1x16x16384x16384_3_3_1_1_02_02 none a0 a2)
    (transpose S1x16x16384x16384 [0, 3, 2, 1] (Host.dotGeneral dot_S1x16384x32_S1x16384x16x32_S1x16384x16384x16_2_3_1_12_0_0 none a3 a1) transposes_S1x16384x16384x16_S1x16x16384x16384_0_3_2_1))
    (broadcastInDim S1x16x16384x16384 ![] bcast_S_S1x16x16384x16384 (Host.sqrt (constant S_ .f32 0x42C00000#32)))

/-- The largest score of each query. -/
def top (T : FVec Ideal S1x16x16384x16384 .f32) : FVec Ideal S1x16x16384 .f32 :=
  maximumf (broadcastInDim S1x16x16384 ![] bcast_S_S1x16x16384 (constant S_ .f32 0xFF800000#32))
    (Host.reduce FloatOps.maximumf T (constant S_ .f32 0xFF800000#32) reducesTo_S1x16x16384x16384_S1x16x16384_d3 h_S_)

/-- One number per query, for every key. -/
def wide (x : FVec Ideal S1x16x16384 .f32) : FVec Ideal S1x16x16384x16384 .f32 :=
  broadcastInDim S1x16x16384x16384 ![0, 1, 2, 3] bcast_S1x16x16384x1_S1x16x16384x16384_0_1_2_3 (broadcastInDim S1x16x16384x1 ![0, 1, 2] bcast_S1x16x16384_S1x16x16384x1_0_1_2 x)

/-- The exponentials of the scores less their largest. -/
def expo (T : FVec Ideal S1x16x16384x16384 .f32) : FVec Ideal S1x16x16384x16384 .f32 := Host.exp (subf T (wide (top T)))

/-- The sum of each query's exponentials. -/
def tot (E : FVec Ideal S1x16x16384x16384 .f32) : FVec Ideal S1x16x16384 .f32 :=
  Host.reduceAdd E (constant S_ .f32 0x00000000#32) reducesTo_S1x16x16384x16384_S1x16x16384_d3 h_S_

/-- The result, from the values and the weights. -/
def mix (P : FVec Ideal S1x16x16384x16384 .f32) : FVec Ideal S1x16384x1024 .bf16 :=
  truncf .bf16 (shapeCast S1x16384x1024 (transpose S1x16384x16x64 [0, 3, 1, 2] (Host.dotGeneral dot_S1x16384x16x64_S1x16x16384x16384_S1x16x64x16384_1_3_3_2_02_01 none a4 P)
    transposes_S1x16x64x16384_S1x16384x16x64_0_3_1_2) shapeCasts_S1x16384x16x64_S1x16384x1024) bitsLt_bf16_f32

/-- The reference's result. -/
def result : FVec Ideal S1x16384x1024 .bf16 :=
  mix a4 (Host.divf (expo (scores a0 a1 a2 a3)) (wide (tot (expo (scores a0 a1 a2 a3)))))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

theorem scores_apply (h : Fin 16) (i k : Fin 16384) : scores a0 a1 a2 a3 (ix4 0 h i k) =
    Ideal.div ((∑ d : Fin 64, a0 (ix4 0 i h d) * a2 (ix4 0 k h d)) + ∑ d : Fin 32, a3 (ix3 0 k d) * a1 (ix4 0 i h d)) (Ideal.sqrt (Ideal.ofBits .f32 0x42C00000#32)) := by
  pointwise [scores]

theorem divf_at (x y : FVec Ideal S1x16x16384x16384 .f32) (j : S1x16x16384x16384.Idx) : Host.divf x y j = Ideal.div (x j) (y j) := rfl

theorem largest (x y : FVec Ideal S1x16x16384 .f32) (j : S1x16x16384.Idx) : maximumf x y j = max (x j) (y j) := rfl

theorem floor_apply (j : S1x16x16384.Idx) :
    broadcastInDim S1x16x16384 ![] bcast_S_S1x16x16384 (constant (F := Ideal) S_ .f32 0xFF800000#32) j = Ideal.ofBits .f32 0xFF800000#32 := rfl

theorem reduce_max (T : FVec Ideal S1x16x16384x16384 .f32) (b : FVec Ideal S_ .f32) (j : S1x16x16384.Idx) :
    Host.reduce (FloatOps.maximumf (F := Ideal) (φ := .f32)) T b reducesTo_S1x16x16384x16384_S1x16x16384_d3 h_S_ j
      = (Finset.univ.filter fun i => reducesTo_S1x16x16384x16384_S1x16x16384_d3.drop i = j).fold (max : EReal → EReal → EReal) (b (Shape.Idx.first h_S_)) T :=
  Host.reduce_eq_fold (α := EReal) max T b _ _ j

theorem fold_max (T : FVec Ideal S1x16x16384x16384 .f32) (b : EReal) (h : Fin 16) (i : Fin 16384) :
    (Finset.univ.filter fun x => reducesTo_S1x16x16384x16384_S1x16x16384_d3.drop x = ix3 0 h i).fold (max : EReal → EReal → EReal) b T
      = Finset.univ.fold max b fun k : Fin 16384 => T (ix4 0 h i k) :=
  Shape.ReducesTo.fold_fiber_r4_a3 _ _ _ _ _

theorem top_apply (T : FVec Ideal S1x16x16384x16384 .f32) (h : Fin 16) (i : Fin 16384) : top T (ix3 0 h i) =
    max (Ideal.ofBits .f32 0xFF800000#32) (Finset.univ.fold max (constant (F := Ideal) S_ .f32 0xFF800000#32 (Shape.Idx.first h_S_)) fun k : Fin 16384 => T (ix4 0 h i k)) := by
  unfold top
  rw [largest, floor_apply, reduce_max, fold_max]

theorem wide_apply (x : FVec Ideal S1x16x16384 .f32) (h : Fin 16) (i k : Fin 16384) : wide x (ix4 0 h i k) = x (ix3 0 h i) := by
  pointwise [wide]

theorem expo_apply (T : FVec Ideal S1x16x16384x16384 .f32) (h : Fin 16) (i k : Fin 16384) :
    expo T (ix4 0 h i k) = Ideal.exp (T (ix4 0 h i k) - top T (ix3 0 h i)) := by
  pointwise [expo, wide]

theorem tot_apply (E : FVec Ideal S1x16x16384x16384 .f32) (h : Fin 16) (i : Fin 16384) :
    tot E (ix3 0 h i) = ∑ k : Fin 16384, E (ix4 0 h i k) := by
  pointwise [tot]

theorem mix_apply (P : FVec Ideal S1x16x16384x16384 .f32) (i : Fin 16384) (e : Fin 1024) :
    mix a4 P (ix3 0 i e) = ∑ k : Fin 16384, a4 (ix4 0 k ⟨e.val / 64, by omega⟩ ⟨e.val % 64, by omega⟩) * P (ix4 0 ⟨e.val / 64, by omega⟩ i k) := by
  pointwise [mix]

end Cert.Ref

end
-- ==== Proof.Agree.lean ====
/-
  The reference's result at an index, when the queries and the keys are real, and what the precondition says.
-/
module

public import proofs.«01_k».proof.Proof.RefRead
public import proofs.«01_k».proof.Proof.Softmax
public import proofs.«01_k».proof.Proof.Gen.Pre_finite_scores

@[expose] public section

set_option maxRecDepth 16384

noncomputable section

namespace Cert.Ref

open Cert.ReferenceIdeal Cert.ReferenceIdeal.Gen Cert.Softmax
open Idealize.ShloMosaic Idealize.ShloMosaic.TcCoe Idealize.ShloMosaic.Tactic

theorem ofBits_bot : Ideal.ofBits .f32 0xFF800000#32 = (⊥ : EReal) := by
  simp [Ideal.ofBits, Ideal.ieee, -EReal.coe_mul]

theorem ofBits_top : Ideal.ofBits .f32 0x7F800000#32 = (⊤ : EReal) := by
  simp [Ideal.ofBits, Ideal.ieee, -EReal.coe_mul]

theorem ofBits_96 : Ideal.ofBits .f32 0x42C00000#32 = ((96 : ℝ) : EReal) := by
  simp [Ideal.ofBits, Ideal.ieee, -EReal.coe_mul]
  norm_num

/-- The weights and the values, mixed, when the scores of a query are real. -/
theorem mix_real (a4 : FVec Ideal S1x16384x16x64 .f32) (T : FVec Ideal S1x16x16384x16384 .f32) (t : ℕ → ℝ) (i : Fin 16384) (e : Fin 1024)
    (hT : ∀ k : Fin 16384, T (ix4 0 ⟨e.val / 64, by omega⟩ i k) = (t k.val : EReal)) :
    mix a4 (Host.divf (expo T) (wide (tot (expo T)))) (ix3 0 i e)
      = attn t (fun k => a4 (ix4 0 ⟨k % 16384, Nat.mod_lt _ (by decide)⟩ ⟨e.val / 64, by omega⟩ ⟨e.val % 64, by omega⟩)) 16384 := by
  obtain ⟨M, hM⟩ : ∃ M : ℝ, top T (ix3 0 ⟨e.val / 64, by omega⟩ i) = (M : EReal) := by
    obtain ⟨M, hM⟩ := fold_max_real (Finset.univ : Finset (Fin 16384)) Finset.univ_nonempty fun k => t k.val
    refine ⟨M, ?_⟩
    rw [top_apply, ofBits_bot, max_bot_left, show (constant (F := Ideal) S_ .f32 0xFF800000#32 (Shape.Idx.first h_S_) : EReal) = ⊥ from ofBits_bot]
    simp only [hT]
    exact hM
  have hE : ∀ k : Fin 16384, expo T (ix4 0 ⟨e.val / 64, by omega⟩ i k) = (Real.exp (t k.val - M) : EReal) := fun k => by
    rw [expo_apply, hT, hM, ← EReal.coe_sub]
    rfl
  have hS : tot (expo T) (ix3 0 ⟨e.val / 64, by omega⟩ i) = ((∑ k ∈ Finset.range 16384, Real.exp (t k - M) : ℝ) : EReal) := by
    rw [tot_apply, Finset.sum_range, Softmax.coe_sum]
    exact Finset.sum_congr rfl fun k _ => hE k
  have hpos : (∑ k ∈ Finset.range 16384, Real.exp (t k - M) : ℝ) ≠ 0 := (sum_exp_pos (fun k => t k - M) (by decide : 0 < 16384)).ne'
  rw [mix_apply]
  unfold attn
  rw [Finset.sum_range]
  refine Finset.sum_congr rfl fun k _ => ?_
  have hk : k.val % 16384 = k.val := Nat.mod_eq_of_lt k.isLt
  refine congrArg₂ (fun x y : EReal => x * y) ?_ ?_
  · simp only [hk]
  · rw [divf_at, wide_apply, hE, hS, Ideal.div_coe hpos, ← EReal.coe_mul, exp_soft t M 16384 (by decide) k.val]

variable (r0 : S1x16384x16x64.Idx → ℝ) (r1 : S1x16384x16x32.Idx → ℝ) (r2 : S1x16384x16x64.Idx → ℝ) (r3 : S1x16384x32.Idx → ℝ)

theorem sqrt_96 : Ideal.sqrt (Ideal.ofBits .f32 0x42C00000#32) = (Real.sqrt 96 : EReal) := by
  rw [ofBits_96, Ideal.sqrt_coe, if_neg (by norm_num)]

/-- The scores of real queries and keys. -/
theorem scores_real (h : Fin 16) (i k : Fin 16384) :
    scores (fun x => (r0 x : EReal)) (fun x => (r1 x : EReal)) (fun x => (r2 x : EReal)) (fun x => (r3 x : EReal)) (ix4 0 h i k)
      = ((((∑ d : Fin 64, r0 (ix4 0 i h d) * r2 (ix4 0 k h d)) + ∑ d : Fin 32, r3 (ix3 0 k d) * r1 (ix4 0 i h d)) / Real.sqrt 96 : ℝ) : EReal) := by
  rw [scores_apply, sqrt_96, Ideal.div_coe (Real.sqrt_ne_zero'.mpr (by norm_num)), div_eq_mul_one_div (_ + _) (Real.sqrt 96), EReal.coe_mul, EReal.coe_add, Softmax.coe_sum, Softmax.coe_sum]
  simp only [EReal.coe_mul]

/-- An entry whose magnitude is below infinity is real. -/
theorem real_of_lt (x : EReal) (h : max x (-x) < ⊤) : ∃ r : ℝ, x = (r : EReal) := by
  induction x with
  | bot => simp at h
  | top => simp at h
  | coe r => exact ⟨r, rfl⟩

theorem of_bool {p : Prop} [Decidable p] (H : BitVec.ofBool (decide p) = 1#1) : p := by
  by_contra hn
  rw [decide_eq_false hn] at H
  exact absurd H (by decide)

theorem pre_entry (a0 : FVec Ideal S1x16384x16x64 .f32) (a1 : FVec Ideal S1x16384x16x32 .f32) (a2 : FVec Ideal S1x16384x16x64 .f32)
    (a3 : FVec Ideal S1x16384x32 .f32) (a4 : FVec Ideal S1x16384x16x64 .f32) (i : Fin 16384) (h : Fin 16) (e : Fin 192)
    (H : Cert.Pre_finite_scores.fn (F := Ideal) a0 a1 a2 a3 a4 (ix4 0 i h e) = 1#1) :
    ∃ r : ℝ, (if _ : e.val < 64 then a0 (ix4 0 i h ⟨e.val, by omega⟩) else if _ : e.val - 64 < 32 then a1 (ix4 0 i h ⟨e.val - 64, by omega⟩)
      else if _ : e.val - 64 - 32 < 64 then a2 (ix4 0 i h ⟨e.val - 64 - 32, by omega⟩) else a3 (ix3 0 i ⟨e.val - 64 - 32 - 64, by omega⟩)) = (r : EReal) := by
  unfold Cert.Pre_finite_scores.fn at H
  pointwise at H
  exact real_of_lt _ (lt_of_lt_of_eq (of_bool H) ofBits_top)

/-- The precondition: the queries and the keys are real. -/
theorem pre_real (a0 : FVec Ideal S1x16384x16x64 .f32) (a1 : FVec Ideal S1x16384x16x32 .f32) (a2 : FVec Ideal S1x16384x16x64 .f32)
    (a3 : FVec Ideal S1x16384x32 .f32) (a4 : FVec Ideal S1x16384x16x64 .f32)
    (H : Cert.Pre_finite_scores.fn (F := Ideal) a0 a1 a2 a3 a4 = fun _ => 1#1) :
    ∃ (r0 : S1x16384x16x64.Idx → ℝ) (r1 : S1x16384x16x32.Idx → ℝ) (r2 : S1x16384x16x64.Idx → ℝ) (r3 : S1x16384x32.Idx → ℝ),
      a0 = (fun x => (r0 x : EReal)) ∧ a1 = (fun x => (r1 x : EReal)) ∧ a2 = (fun x => (r2 x : EReal)) ∧ a3 = (fun x => (r3 x : EReal)) := by
  have E := fun i h e => pre_entry a0 a1 a2 a3 a4 i h e (congrFun H _)
  have h0 : ∀ x, ∃ r : ℝ, a0 x = (r : EReal) := fun x => by
    idx_vars x
    obtain rfl : x0 = 0 := Subsingleton.elim _ _
    obtain ⟨r, hr⟩ := E x1 x2 ⟨x3.val, by omega⟩
    have c1 : x3.val < 64 := x3.isLt
    simp only [c1, dite_true] at hr
    exact ⟨r, hr⟩
  have h1 : ∀ x, ∃ r : ℝ, a1 x = (r : EReal) := fun x => by
    idx_vars x
    obtain rfl : x0 = 0 := Subsingleton.elim _ _
    obtain ⟨r, hr⟩ := E x1 x2 ⟨64 + x3.val, by omega⟩
    have c1 : ¬ 64 + x3.val < 64 := by omega
    have c2 : 64 + x3.val - 64 = x3.val := by omega
    have c3 : x3.val < 32 := x3.isLt
    simp only [c1, c2, c3, dite_true, dite_false] at hr
    exact ⟨r, hr⟩
  have h2 : ∀ x, ∃ r : ℝ, a2 x = (r : EReal) := fun x => by
    idx_vars x
    obtain rfl : x0 = 0 := Subsingleton.elim _ _
    obtain ⟨r, hr⟩ := E x1 x2 ⟨96 + x3.val, by omega⟩
    have c1 : ¬ 96 + x3.val < 64 := by omega
    have c2 : ¬ 96 + x3.val - 64 < 32 := by omega
    have c3 : 96 + x3.val - 64 - 32 = x3.val := by omega
    have c4 : x3.val < 64 := x3.isLt
    simp only [c1, c2, c3, c4, dite_true, dite_false] at hr
    exact ⟨r, hr⟩
  have h3 : ∀ x, ∃ r : ℝ, a3 x = (r : EReal) := fun x => by
    idx_vars x
    obtain rfl : x0 = 0 := Subsingleton.elim _ _
    obtain ⟨r, hr⟩ := E x1 0 ⟨160 + x2.val, by omega⟩
    have c1 : ¬ 160 + x2.val < 64 := by omega
    have c2 : ¬ 160 + x2.val - 64 < 32 := by omega
    have c3 : ¬ 160 + x2.val - 64 - 32 < 64 := by omega
    have c4 : 160 + x2.val - 64 - 32 - 64 = x2.val := by omega
    simp only [c1, c2, c3, c4, dite_false] at hr
    exact ⟨r, hr⟩
  choose r0 e0 using h0
  choose r1 e1 using h1
  choose r2 e2 using h2
  choose r3 e3 using h3
  exact ⟨r0, r1, r2, r3, funext e0, funext e1, funext e2, funext e3⟩

end Cert.Ref

end
-- ==== Proof.Match.lean ====
/-
  The kernel's result is the reference's, when the queries and the keys are real.
-/
module

public import proofs.«01_k».proof.Proof.Value
public import proofs.«01_k».proof.Proof.Agree

@[expose] public section

set_option maxRecDepth 16384

noncomputable section

namespace Cert.Match

open Cert.KernelIdeal Cert.Attn Cert.Softmax
open Idealize.ShloMosaic Idealize.ShloMosaic.TcCoe Idealize.ShloMosaic.Tactic

theorem spread_real (r3 : S1x16384x32.Idx → ℝ) :
    spread (fun x => (r3 x : EReal)) = fun x => ((r3 (ix3 0 (x 1) (x 3)) : ℝ) : EReal) := by
  funext x
  idx_vars x
  obtain rfl : x0 = 0 := Subsingleton.elim _ _
  exact spread_apply _ x1 x2 x3

theorem result_eq (a0 : FVec Ideal S1x16384x16x64 .f32) (a1 : FVec Ideal S1x16384x16x32 .f32) (a2 : FVec Ideal S1x16384x16x64 .f32)
    (a3 : FVec Ideal S1x16384x32 .f32) (a4 : FVec Ideal S1x16384x16x64 .f32)
    (H : Cert.Pre_finite_scores.fn (F := Ideal) a0 a1 a2 a3 a4 = fun _ => 1#1) (x : S1x16384x1024.Idx) :
    Cert.Ref.result a0 a1 a2 a3 a4 x = pairs (cat a0 a1) (cat a2 (spread a3)) (turned a4) x := by
  obtain ⟨r0, r1, r2, r3, rfl, rfl, rfl, rfl⟩ := Cert.Ref.pre_real a0 a1 a2 a3 a4 H
  idx_vars x
  obtain rfl : x0 = 0 := Subsingleton.elim _ _
  rw [spread_real, pairs_apply]
  refine Cert.Ref.mix_real a4 _ _ x1 x2 fun k => ?_
  refine (Cert.Ref.scores_real r0 r1 r2 r3 _ x1 k).trans ?_
  have hk : (⟨k.val % 16384, Nat.mod_lt _ (by decide)⟩ : Fin 16384) = k := Fin.ext (Nat.mod_eq_of_lt k.isLt)
  simp only [scoreN, hk]
  rfl

end Cert.Match

end
-- ==== Proof.Rows.lean ====
/-
  The layer's operations on one row of 1024 extended reals.
-/
module

public import Idealize.ShloMosaic.PureOps.Ideal
public import Idealize.ShloMosaic.Lib.ValueIdx

@[expose] public section

noncomputable section

namespace Cert.Rows

open Idealize.ShloMosaic

/-- A row. -/
abbrev Row := Fin 1024 → EReal

/-- The mean of a row. -/
def mean (x : Row) : EReal := Ideal.div (∑ d, x d) (Ideal.ofBits .f32 0x44800000#32)

/-- A row less its mean, divided by its deviation. -/
def normRow (x : Row) : Row := fun e =>
  (x e - mean x) * Ideal.rsqrt (mean (fun d => (x d - mean x) * (x d - mean x)) + Ideal.ofBits .f32 0x3727C5AC#32)

/-- The weight of the residual: the fourth root of 2. -/
def alpha : EReal := ((Real.sqrt (Real.sqrt 2) : ℝ) : EReal)

theorem sqrt_sqrt : Ideal.sqrt (Ideal.sqrt (Ideal.ofBits .f32 0x40000000#32)) = alpha := by
  have h : Ideal.ofBits .f32 0x40000000#32 = ((2 : ℝ) : EReal) := by
    simp [Ideal.ofBits, Ideal.ieee, -EReal.coe_mul]
    norm_num
  rw [h, Ideal.sqrt_coe, if_neg (by norm_num), Ideal.sqrt_coe, if_neg (not_lt.mpr (Real.sqrt_nonneg 2))]
  rfl

/-- A row scaled, plus a gated one, normalised, with gain and bias. -/
def resid (x gate y gain bias : Row) : Row := fun e =>
  normRow (fun d => alpha * x d + gate d * y d) e * gain e + bias e

/-- A row normalised, scaled and shifted. -/
def modulated (x shift scale : Row) : Row := fun e => normRow x e * (1 + scale e) + shift e

/-- The mixture of the two branches. -/
def mixed (hf hb gg sa sb o : Row) (wr wm wo : Fin 1024 → Row) : Row := fun e =>
  ∑ k, (sa k * (∑ d, gg d * (hf d + hb d) * wr d k) + sb k * ∑ d, o d * wm d k) * wo k e

end Cert.Rows

end
-- ==== Proof.MergeTile.lean ====
/-
  What one grid point of the merge kernel leaves in its result blocks, at an index.
-/
module

public import proofs.«01_k».proof.Proof.Rows
public import proofs.«01_k».proof.Proof.Gen.Kernel2Ideal.Value
public import Idealize.ShloMosaic.PureOps.IdealRules
public import Idealize.ShloMosaic.Lib.Pointwise
public import Idealize.ShloMosaic.Lib.Pipeline.ValueKit.Geometry

@[expose] public section

set_option maxRecDepth 16384

noncomputable section

namespace Cert.Merge

open Cert.Kernel2Ideal Cert.Kernel2Ideal.Gen Cert.Rows
open Idealize.ShloMosaic Idealize.ShloMosaic.TcCoe Idealize.ShloMosaic.Tactic Idealize.ShloMosaic.ValueKit

theorem pay3_apply (o : Vec Ideal S1x256x1024 .bf16) (wm : Vec Ideal S1024x1024 .bf16) (gg : Vec Ideal S1x256x1024 .bf16) (hf hb : Vec Ideal S1x256x1024 .f32)
    (wr : Vec Ideal S1024x1024 .bf16) (sa sb : Vec Ideal S1x256x1024 .bf16) (r : Fin 256) (k : Fin 1024) :
    k0_pay3 (F := Ideal) o wm gg hf hb wr sa sb (ix2 r k) =
      sa (ix3 0 r k) * (∑ d : Fin 1024, gg (ix3 0 r d) * (hf (ix3 0 r d) + hb (ix3 0 r d)) * wr (ix2 d k)) + sb (ix3 0 r k) * ∑ d : Fin 1024, o (ix3 0 r d) * wm (ix2 d k) := by
  pointwise [k0_pay3]

theorem alpha_named : Named.named (F := Ideal) Cert.Kernel2Ideal.κ "dn_alpha" (φ := .f32) 0x3F9837F0#32 = alpha :=
  IdealRules.named_const.ideal_named_scalar _ _ _ _ rfl

theorem pay4_apply (v1 : FVec Ideal S8x1024 .f32) (v29 : FVec Ideal S256x1024 .bf16) (wo : Vec Ideal S1024x1024 .bf16) (x : Vec Ideal S1x256x1024 .f32)
    (g b : Vec Ideal S1x1024 .f32) (r : Fin 256) (e : Fin 1024) :
    k0_pay4 (F := Ideal) v1 v29 wo x g b (ix2 r e) = resid (fun d => x (ix3 0 r d)) (fun d => v1 (ix2 2 d)) (fun d => ∑ k : Fin 1024, v29 (ix2 r k) * wo (ix2 k d))
      (fun d => g (ix2 0 d)) (fun d => b (ix2 0 d)) e := by
  pointwise [k0_pay4]
  rw [alpha_named]
  rfl

theorem pay5_apply (v1 : FVec Ideal S8x1024 .f32) (v29 : FVec Ideal S256x1024 .bf16) (wo : Vec Ideal S1024x1024 .bf16) (x : Vec Ideal S1x256x1024 .f32)
    (g b : Vec Ideal S1x1024 .f32) (i : Fin 1) (r : Fin 256) (e : Fin 1024) :
    k0_pay5 (F := Ideal) v1 v29 wo x g b (ix3 i r e) = k0_pay4 (F := Ideal) v1 v29 wo x g b (ix2 r e) := by
  pointwise [k0_pay5]

theorem pay6_apply (v1 : FVec Ideal S8x1024 .f32) (v29 : FVec Ideal S256x1024 .bf16) (wo : Vec Ideal S1024x1024 .bf16) (x : Vec Ideal S1x256x1024 .f32)
    (g b : Vec Ideal S1x1024 .f32) (r : Fin 256) (i : Fin 1) :
    k0_pay6 (F := Ideal) v1 v29 wo x g b (ix2 r i) = ∑ d : Fin 1024, k0_pay4 (F := Ideal) v1 v29 wo x g b (ix2 r d) := by
  pointwise [k0_pay6]

theorem pay7_apply (v1 : FVec Ideal S8x1024 .f32) (x : FVec Ideal S256x1024 .f32) (t : FVec Ideal S256x1 .f32)
    (i : Fin 1) (r : Fin 256) (e : Fin 1024) (ht : t (ix2 r 0) = ∑ d : Fin 1024, x (ix2 r d)) :
    k0_pay7 (F := Ideal) v1 x t (ix3 i r e) = modulated (fun d => x (ix2 r d)) (fun d => v1 (ix2 3 d)) (fun d => v1 (ix2 4 d)) e := by
  pointwise [k0_pay7]
  rw [ht]
  rfl

theorem pay2_apply (v : Vec Ideal S1x8x1024 .f32) (r : Fin 8) (e : Fin 1024) : k0_pay2 (F := Ideal) v (ix2 r e) = v (ix3 0 r e) := by
  pointwise [k0_pay2]

theorem second_first (v1 : FVec Ideal S8x1024 .f32) (o : Vec Ideal S1x256x1024 .bf16) (wm : Vec Ideal S1024x1024 .bf16) (gg : Vec Ideal S1x256x1024 .bf16) (hf hb : Vec Ideal S1x256x1024 .f32)
    (wr : Vec Ideal S1024x1024 .bf16) (sa sb : Vec Ideal S1x256x1024 .bf16) (wo : Vec Ideal S1024x1024 .bf16) (x : Vec Ideal S1x256x1024 .f32) (g b : Vec Ideal S1x1024 .f32) :
    k0_pay14 (F := Ideal) (k0_pay11 v1 (k0_pay8 o wm) (k0_pay9 gg) (k0_pay10 hf) hb wr sa sb wo x) (k0_pay12 v1 (k0_pay8 o wm) (k0_pay9 gg) (k0_pay10 hf) hb wr sa sb wo x) g b
      = k0_pay5 v1 (k0_pay3 o wm gg hf hb wr sa sb) wo x g b := rfl

theorem second_next (v1 : FVec Ideal S8x1024 .f32) (o : Vec Ideal S1x256x1024 .bf16) (wm : Vec Ideal S1024x1024 .bf16) (gg : Vec Ideal S1x256x1024 .bf16) (hf hb : Vec Ideal S1x256x1024 .f32)
    (wr : Vec Ideal S1024x1024 .bf16) (sa sb : Vec Ideal S1x256x1024 .bf16) (wo : Vec Ideal S1024x1024 .bf16) (x : Vec Ideal S1x256x1024 .f32) (g b : Vec Ideal S1x1024 .f32) :
    k0_pay1 (F := Ideal) (k0_pay15 v1 (k0_pay11 v1 (k0_pay8 o wm) (k0_pay9 gg) (k0_pay10 hf) hb wr sa sb wo x) (k0_pay12 v1 (k0_pay8 o wm) (k0_pay9 gg) (k0_pay10 hf) hb wr sa sb wo x) g b)
      = k0_pay7 v1 (k0_pay4 v1 (k0_pay3 o wm gg hf hb wr sa sb) wo x g b) (k0_pay6 v1 (k0_pay3 o wm gg hf hb wr sa sb) wo x g b) := rfl

/-! ## The result blocks -/

variable (x0 x1 x2 : Vec Ideal S1x512x1024 .f32) (x3 x4 x5 x6 : Vec Ideal S1x512x1024 .bf16) (x7 : Vec Ideal S1x8x1024 .f32)
  (x8 x9 x10 : Vec Ideal S1024x1024 .bf16) (x11 x12 : Vec Ideal S1x1024 .f32)

/-- A row of the first result block. -/
def row1 (r : Fin 512) : Row :=
  resid (fun d => x0 (ix3 0 r d)) (fun d => x7 (ix3 0 2 d))
    (mixed (fun d => x1 (ix3 0 r d)) (fun d => x2 (ix3 0 r d)) (fun d => x3 (ix3 0 r d)) (fun d => x4 (ix3 0 r d)) (fun d => x5 (ix3 0 r d)) (fun d => x6 (ix3 0 r d))
      (fun d k => x8 (ix2 d k)) (fun d k => x9 (ix2 d k)) (fun d k => x10 (ix2 d k)))
    (fun d => x11 (ix2 0 d)) (fun d => x12 (ix2 0 d))

/-- A row of the second result block. -/
def row2 (r : Fin 512) : Row :=
  modulated (row1 x0 x1 x2 x3 x4 x5 x6 x7 x8 x9 x10 x11 x12 r) (fun d => x7 (ix3 0 3 d)) (fun d => x7 (ix3 0 4 d))

section half

variable (y0 y1 y2 : Vec Ideal S1x256x1024 .f32) (y3 y4 y5 y6 : Vec Ideal S1x256x1024 .bf16) (p : Fin 256 → Fin 512)
  (h0 : ∀ r d, y0 (ix3 0 r d) = x0 (ix3 0 (p r) d)) (h1 : ∀ r d, y1 (ix3 0 r d) = x1 (ix3 0 (p r) d)) (h2 : ∀ r d, y2 (ix3 0 r d) = x2 (ix3 0 (p r) d))
  (h3 : ∀ r d, y3 (ix3 0 r d) = x3 (ix3 0 (p r) d)) (h4 : ∀ r d, y4 (ix3 0 r d) = x4 (ix3 0 (p r) d)) (h5 : ∀ r d, y5 (ix3 0 r d) = x5 (ix3 0 (p r) d))
  (h6 : ∀ r d, y6 (ix3 0 r d) = x6 (ix3 0 (p r) d))
include h0 h1 h2 h3 h4 h5 h6

theorem half1 (r : Fin 256) (e : Fin 1024) :
    k0_pay4 (F := Ideal) (k0_pay2 x7) (k0_pay3 y6 x9 y3 y1 y2 x8 y4 y5) x10 y0 x11 x12 (ix2 r e) = row1 x0 x1 x2 x3 x4 x5 x6 x7 x8 x9 x10 x11 x12 (p r) e := by
  rw [pay4_apply]
  simp only [pay3_apply, pay2_apply, h0, h1, h2, h3, h4, h5, h6]
  rfl

theorem half2 (i : Fin 1) (r : Fin 256) (e : Fin 1024) :
    k0_pay7 (F := Ideal) (k0_pay2 x7) (k0_pay4 (k0_pay2 x7) (k0_pay3 y6 x9 y3 y1 y2 x8 y4 y5) x10 y0 x11 x12)
      (k0_pay6 (k0_pay2 x7) (k0_pay3 y6 x9 y3 y1 y2 x8 y4 y5) x10 y0 x11 x12) (ix3 i r e) = row2 x0 x1 x2 x3 x4 x5 x6 x7 x8 x9 x10 x11 x12 (p r) e := by
  rw [pay7_apply _ _ _ _ _ _ (pay6_apply _ _ _ _ _ _ _ _)]
  simp only [half1 x0 x1 x2 x3 x4 x5 x6 x7 x8 x9 x10 x11 x12 y0 y1 y2 y3 y4 y5 y6 p h0 h1 h2 h3 h4 h5 h6, pay2_apply]
  rfl

end half

/-- A row of the first half of a block. -/
def low (r : Fin 256) : Fin 512 := ⟨r.val, by omega⟩

/-- A row of the second half of a block. -/
def high (r : Fin 256) : Fin 512 := ⟨256 + r.val, by omega⟩

theorem emb_low (i : Fin 1) (r : Fin 256) (d : Fin 1024) : r0_1.emb (ix3 i r d) = ix3 0 (low r) d := by
  obtain rfl : i = 0 := Subsingleton.elim _ _
  blk_ext [low]

theorem emb_high (i : Fin 1) (r : Fin 256) (d : Fin 1024) : r0_4.emb (ix3 i r d) = ix3 0 (high r) d := by
  obtain rfl : i = 0 := Subsingleton.elim _ _
  blk_ext [high]

theorem ld_low {e : EltTy} (x : Vec Ideal S1x512x1024 e) (r : Fin 256) (d : Fin 1024) : View.ld x r0_1 (ix3 0 r d) = x (ix3 0 (low r) d) := congrArg x (emb_low 0 r d)

theorem ld_high {e : EltTy} (x : Vec Ideal S1x512x1024 e) (r : Fin 256) (d : Fin 1024) : View.ld x r0_4 (ix3 0 r d) = x (ix3 0 (high r) d) := congrArg x (emb_high 0 r d)

theorem ld_whole {e : EltTy} (x : Vec Ideal S1x8x1024 e) : View.ld x r0_0 = x := View.ld_unit_zero (by decide) _ _
theorem ld_square {e : EltTy} (x : Vec Ideal S1024x1024 e) : View.ld x r0_2 = x := View.ld_unit_zero (by decide) _ _
theorem ld_line {e : EltTy} (x : Vec Ideal S1x1024 e) : View.ld x r0_3 = x := View.ld_unit_zero (by decide) _ _

/-- The first result block. -/
def tile1 : Vec Ideal S1x512x1024 .f32 := fun y => row1 x0 x1 x2 x3 x4 x5 x6 x7 x8 x9 x10 x11 x12 (y 1) (y 2)

/-- The second result block. -/
def tile2 : Vec Ideal S1x512x1024 .bf16 := fun y => row2 x0 x1 x2 x3 x4 x5 x6 x7 x8 x9 x10 x11 x12 (y 1) (y 2)

theorem out1 : out0_13 x0 x1 x2 x3 x4 x5 x6 x7 x8 x9 x10 x11 x12 = tile1 x0 x1 x2 x3 x4 x5 x6 x7 x8 x9 x10 x11 x12 := by
  funext y
  unfold_out out0_13
  refine View.canon_apply_of_pieces (tile1 x0 x1 x2 x3 x4 x5 x6 x7 x8 x9 x10 x11 x12) _ ?_ y (cover0_13 _ _ y)
  rw [second_first]
  simp only [ld_whole, ld_square, ld_line, List.forall_mem_cons, List.not_mem_nil, false_implies, implies_true, and_true]
  refine ⟨fun z => ?_, fun z => ?_⟩
  all_goals idx_vars z
  · rw [pay5_apply, half1 _ _ _ _ _ _ _ _ _ _ _ _ _ _ _ _ _ _ _ _ high (ld_high x0) (ld_high x1) (ld_high x2) (ld_high x3) (ld_high x4) (ld_high x5) (ld_high x6)]
    exact (congrArg (tile1 x0 x1 x2 x3 x4 x5 x6 x7 x8 x9 x10 x11 x12) (emb_high _ _ _)).symm
  · rw [pay5_apply, half1 _ _ _ _ _ _ _ _ _ _ _ _ _ _ _ _ _ _ _ _ low (ld_low x0) (ld_low x1) (ld_low x2) (ld_low x3) (ld_low x4) (ld_low x5) (ld_low x6)]
    exact (congrArg (tile1 x0 x1 x2 x3 x4 x5 x6 x7 x8 x9 x10 x11 x12) (emb_low _ _ _)).symm

theorem out2 : out0_14 x0 x1 x2 x3 x4 x5 x6 x7 x8 x9 x10 x11 x12 = tile2 x0 x1 x2 x3 x4 x5 x6 x7 x8 x9 x10 x11 x12 := by
  funext y
  unfold_out out0_14
  refine View.canon_apply_of_pieces (tile2 x0 x1 x2 x3 x4 x5 x6 x7 x8 x9 x10 x11 x12) _ ?_ y (cover0_14 _ _ y)
  rw [second_next]
  simp only [ld_whole, ld_square, ld_line, List.forall_mem_cons, List.not_mem_nil, false_implies, implies_true, and_true]
  refine ⟨fun z => ?_, fun z => ?_⟩
  all_goals idx_vars z
  · rw [half2 _ _ _ _ _ _ _ _ _ _ _ _ _ _ _ _ _ _ _ _ high (ld_high x0) (ld_high x1) (ld_high x2) (ld_high x3) (ld_high x4) (ld_high x5) (ld_high x6)]
    exact (congrArg (tile2 x0 x1 x2 x3 x4 x5 x6 x7 x8 x9 x10 x11 x12) (emb_high _ _ _)).symm
  · rw [half2 _ _ _ _ _ _ _ _ _ _ _ _ _ _ _ _ _ _ _ _ low (ld_low x0) (ld_low x1) (ld_low x2) (ld_low x3) (ld_low x4) (ld_low x5) (ld_low x6)]
    exact (congrArg (tile2 x0 x1 x2 x3 x4 x5 x6 x7 x8 x9 x10 x11 x12) (emb_low _ _ _)).symm

end Cert.Merge

end
-- ==== Proof.MergeResult.lean ====
/-
  The merge kernel's result arrays as functions of the arguments.
-/
module

public import proofs.«01_k».proof.Proof.MergeTile
public import Idealize.ShloMosaic.PureOps.IdealRules

@[expose] public section

set_option maxRecDepth 16384

noncomputable section

namespace Cert.Merge

open Cert.Kernel2Ideal Cert.Kernel2Ideal.Gen Cert.Rows
open Idealize.ShloMosaic Idealize.ShloMosaic.TcCoe Idealize.ShloMosaic.Tactic Idealize.ShloMosaic.ValueKit
open Idealize.SL Idealize.SL.Sem

/-- Block `t` of the rows. -/
def rowBlk {e : EltTy} (X : Vec Ideal S1x16384x1024 e) (t : ℕ) : Vec Ideal S1x512x1024 e := fun x =>
  X (ix3 0 ⟨(512 * t + (x 1).val) % 16384, Nat.mod_lt _ (by decide)⟩ (x 2))

theorem index0 : ∀ t : Fin cfg0.N, win0_0.index t = ![0, t.val, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0] := (by decide +kernel : ∀ t : Fin grid0.N, _)
theorem index11 : ∀ t : Fin cfg0.N, win0_11.index t = ![0, 0] := (by decide +kernel : ∀ t : Fin grid0.N, _)
theorem index13 : ∀ t : Fin cfg0.N, win0_13.index t = ![0, t.val, 0] := (by decide +kernel : ∀ t : Fin grid0.N, _)
theorem index14 : ∀ t : Fin cfg0.N, win0_14.index t = ![0, t.val, 0] := (by decide +kernel : ∀ t : Fin grid0.N, _)

theorem tlt (t : Fin cfg0.N) : t.val < 32 := lt_of_lt_of_eq t.isLt N_0

theorem read0_eq (A : (Pipeline.arrRef spec0 0).ty.Contents (Elt Ideal)) (t : Fin cfg0.N) : ((cfg0.win 0).blk t).view.read (Elt Ideal) A = rowBlk A t.val := by
  have ht := tlt t
  funext y
  blk_simp
  unfold rowBlk
  congr 1
  idx_bounds y
  blk_ext [index0]

theorem read7_eq (A : (Pipeline.arrRef spec0 7).ty.Contents (Elt Ideal)) (t : Fin cfg0.N) : ((cfg0.win 7).blk t).view.read (Elt Ideal) A = A := by
  funext y
  blk_simp
  congr 1
  idx_bounds y
  blk_ext [index7]

theorem read8_eq (A : (Pipeline.arrRef spec0 8).ty.Contents (Elt Ideal)) (t : Fin cfg0.N) : ((cfg0.win 8).blk t).view.read (Elt Ideal) A = A := by
  funext y
  blk_simp
  congr 1
  idx_bounds y
  blk_ext [index8]

theorem read11_eq (A : (Pipeline.arrRef spec0 11).ty.Contents (Elt Ideal)) (t : Fin cfg0.N) : ((cfg0.win 11).blk t).view.read (Elt Ideal) A = A := by
  funext y
  blk_simp
  congr 1
  idx_bounds y
  blk_ext [index11]

variable (m : (ℓ : Loc nD τ sig) → Buf (Elt Ideal) ℓ)

theorem iblk0_eq (c : Dev nD) (t : Fin cfg0.N) : iblk m c 0 t = rowBlk (V m c main_arg0) t.val := read0_eq (V m c main_arg0) t
theorem iblk1_eq (c : Dev nD) (t : Fin cfg0.N) : iblk m c 1 t = rowBlk (V m c main_arg1) t.val := read0_eq (V m c main_arg1) t
theorem iblk2_eq (c : Dev nD) (t : Fin cfg0.N) : iblk m c 2 t = rowBlk (V m c main_arg2) t.val := read0_eq (V m c main_arg2) t
theorem iblk3_eq (c : Dev nD) (t : Fin cfg0.N) : iblk m c 3 t = rowBlk (V m c main_v1) t.val := read0_eq (V m c main_v1) t
theorem iblk4_eq (c : Dev nD) (t : Fin cfg0.N) : iblk m c 4 t = rowBlk (V m c main_v2) t.val := read0_eq (V m c main_v2) t
theorem iblk5_eq (c : Dev nD) (t : Fin cfg0.N) : iblk m c 5 t = rowBlk (V m c main_v3) t.val := read0_eq (V m c main_v3) t
theorem iblk6_eq (c : Dev nD) (t : Fin cfg0.N) : iblk m c 6 t = rowBlk (V m c main_v4) t.val := read0_eq (V m c main_v4) t
theorem iblk7_eq (c : Dev nD) (t : Fin cfg0.N) : iblk m c 7 t = V m c main_v0 := read7_eq (V m c main_v0) t
theorem iblk8_eq (c : Dev nD) (t : Fin cfg0.N) : iblk m c 8 t = V m c main_v5 := read8_eq (V m c main_v5) t
theorem iblk9_eq (c : Dev nD) (t : Fin cfg0.N) : iblk m c 9 t = V m c main_v6 := read8_eq (V m c main_v6) t
theorem iblk10_eq (c : Dev nD) (t : Fin cfg0.N) : iblk m c 10 t = V m c main_v7 := read8_eq (V m c main_v7) t
theorem iblk11_eq (c : Dev nD) (t : Fin cfg0.N) : iblk m c 11 t = V m c main_v8 := read11_eq (V m c main_v8) t
theorem iblk12_eq (c : Dev nD) (t : Fin cfg0.N) : iblk m c 12 t = V m c main_v9 := read11_eq (V m c main_v9) t

/-- The modulation's six rows and two more. -/
def padded (a : FVec Ideal S1x6x1024 .f32) : FVec Ideal S1x8x1024 .f32 :=
  pad S1x8x1024 ![0, 0, 0] ![0, 2, 0] ![0, 0, 0] a (sitofp (F := Ideal) .f32 (constantI S_ 32 0#32)) pads_S1x6x1024_S1x8x1024_000_020_000 h_S_

/-- A vector as one row. -/
def line (a : FVec Ideal S1024 .f32) : FVec Ideal S1x1024 .f32 := broadcastInDim S1x1024 ![1] bcast_S1024_S1x1024_1 a

theorem padded_apply (a : FVec Ideal S1x6x1024 .f32) (r : Fin 6) (d : Fin 1024) : padded a (ix3 0 ⟨r.val, by omega⟩ d) = a (ix3 0 r d) := by
  pointwise [padded]

theorem line_apply (a : FVec Ideal S1024 .f32) (d : Fin 1024) : line a (ix2 0 d) = a (ix1 d) := by
  pointwise [line]

theorem V_mod (c : Dev nD) : V m c main_v0 = padded (m ((c.tc : Thread nD τ).loc main_arg7)) := by
  unfold V
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  rfl

/-- The other arrays the kernel reads: the arguments, a cast being the identity over the extended reals. -/
theorem V_rest (c : Dev nD) :
    (V m c main_v1 = m ((c.tc : Thread nD τ).loc main_arg3) ∧ V m c main_v2 = m ((c.tc : Thread nD τ).loc main_arg4) ∧ V m c main_v3 = m ((c.tc : Thread nD τ).loc main_arg5)
      ∧ V m c main_v4 = m ((c.tc : Thread nD τ).loc main_arg6))
    ∧ (V m c main_v5 = m ((c.tc : Thread nD τ).loc main_arg8) ∧ V m c main_v6 = m ((c.tc : Thread nD τ).loc main_arg9) ∧ V m c main_v7 = m ((c.tc : Thread nD τ).loc main_arg10))
    ∧ V m c main_v8 = line (m ((c.tc : Thread nD τ).loc main_arg11)) ∧ V m c main_v9 = line (m ((c.tc : Thread nD τ).loc main_arg12)) := by
  unfold V
  simp only [hostOps0, hostOps0_1, hostOps0_2, List.flatten_cons, List.flatten_nil, List.append_nil, List.cons_append, List.nil_append]
  refine ⟨⟨?_, ?_, ?_, ?_⟩, ⟨?_, ?_, ?_⟩, ?_, ?_⟩ <;> (after_results; rfl)

section whole

variable (a0 a1 a2 : FVec Ideal S1x16384x1024 .f32) (a3 a4 a5 a6 : FVec Ideal S1x16384x1024 .bf16) (a7 : FVec Ideal S1x6x1024 .f32)
  (a8 a9 a10 : FVec Ideal S1024x1024 .bf16) (a11 a12 : FVec Ideal S1024 .f32)

/-- A row of the first result. -/
def full1 (i : Fin 16384) : Row :=
  resid (fun d => a0 (ix3 0 i d)) (fun d => a7 (ix3 0 2 d))
    (mixed (fun d => a1 (ix3 0 i d)) (fun d => a2 (ix3 0 i d)) (fun d => a3 (ix3 0 i d)) (fun d => a4 (ix3 0 i d)) (fun d => a5 (ix3 0 i d)) (fun d => a6 (ix3 0 i d))
      (fun d k => a8 (ix2 d k)) (fun d k => a9 (ix2 d k)) (fun d k => a10 (ix2 d k)))
    (fun d => a11 (ix1 d)) (fun d => a12 (ix1 d))

/-- A row of the second result. -/
def full2 (i : Fin 16384) : Row := modulated (full1 a0 a1 a2 a3 a4 a5 a6 a7 a8 a9 a10 a11 a12 i) (fun d => a7 (ix3 0 3 d)) (fun d => a7 (ix3 0 4 d))

theorem row1_eq (t : ℕ) (r : Fin 512) :
    row1 (rowBlk a0 t) (rowBlk a1 t) (rowBlk a2 t) (rowBlk a3 t) (rowBlk a4 t) (rowBlk a5 t) (rowBlk a6 t) (padded a7) a8 a9 a10 (line a11) (line a12) r
      = full1 a0 a1 a2 a3 a4 a5 a6 a7 a8 a9 a10 a11 a12 ⟨(512 * t + r.val) % 16384, Nat.mod_lt _ (by decide)⟩ := by
  have h : ∀ d : Fin 1024, padded a7 (ix3 0 2 d) = a7 (ix3 0 2 d) := padded_apply a7 2
  unfold row1
  simp only [h, line_apply]
  rfl

theorem row2_eq (t : ℕ) (r : Fin 512) :
    row2 (rowBlk a0 t) (rowBlk a1 t) (rowBlk a2 t) (rowBlk a3 t) (rowBlk a4 t) (rowBlk a5 t) (rowBlk a6 t) (padded a7) a8 a9 a10 (line a11) (line a12) r
      = full2 a0 a1 a2 a3 a4 a5 a6 a7 a8 a9 a10 a11 a12 ⟨(512 * t + r.val) % 16384, Nat.mod_lt _ (by decide)⟩ := by
  have h : ∀ d : Fin 1024, padded a7 (ix3 0 3 d) = a7 (ix3 0 3 d) := padded_apply a7 3
  have h' : ∀ d : Fin 1024, padded a7 (ix3 0 4 d) = a7 (ix3 0 4 d) := padded_apply a7 4
  unfold row2
  rw [row1_eq]
  simp only [h, h']
  rfl

theorem tile1_eq (t : ℕ) : tile1 (rowBlk a0 t) (rowBlk a1 t) (rowBlk a2 t) (rowBlk a3 t) (rowBlk a4 t) (rowBlk a5 t) (rowBlk a6 t) (padded a7) a8 a9 a10 (line a11) (line a12)
    = rowBlk (e := .f32) (fun y => full1 a0 a1 a2 a3 a4 a5 a6 a7 a8 a9 a10 a11 a12 (y 1) (y 2)) t := funext fun y => congrFun (row1_eq a0 a1 a2 a3 a4 a5 a6 a7 a8 a9 a10 a11 a12 t (y 1)) (y 2)

theorem tile2_eq (t : ℕ) : tile2 (rowBlk a0 t) (rowBlk a1 t) (rowBlk a2 t) (rowBlk a3 t) (rowBlk a4 t) (rowBlk a5 t) (rowBlk a6 t) (padded a7) a8 a9 a10 (line a11) (line a12)
    = rowBlk (e := .bf16) (fun y => full2 a0 a1 a2 a3 a4 a5 a6 a7 a8 a9 a10 a11 a12 (y 1) (y 2)) t := funext fun y => congrFun (row2_eq a0 a1 a2 a3 a4 a5 a6 a7 a8 a9 a10 a11 a12 t (y 1)) (y 2)

end whole

/-- The first result array. -/
def result1 (c : Dev nD) : FVec Ideal S1x16384x1024 .f32 := fun y => full1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (y 1) (y 2)

/-- The second result array. -/
def result2 (c : Dev nD) : FVec Ideal S1x16384x1024 .bf16 := fun y => full2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (y 1) (y 2)

theorem final1 (c : Dev nD) : (dats m 0 c).arrAt 13 cfg0.N = result1 m c := by
  refine (dats m 0 c).arrAt_eq_of_covers 13 _ (by decide +kernel) fun t hf y => ?_
  have ht := tlt t
  obtain ⟨⟨h3, h4, h5, h6⟩, ⟨h8, h9, h10⟩, h11, h12⟩ := V_rest m c
  blk_simp
  rw [after0_13, out1, iblk0_eq, iblk1_eq, iblk2_eq, iblk3_eq, iblk4_eq, iblk5_eq, iblk6_eq, iblk7_eq, iblk8_eq, iblk9_eq, iblk10_eq, iblk11_eq, iblk12_eq,
    V_main_arg0, V_main_arg1, V_main_arg2, h3, h4, h5, h6, V_mod, h8, h9, h10, h11, h12, tile1_eq]
  idx_bounds y
  refine congrArg (result1 m c) ?_
  blk_ext [index13]

theorem final2 (c : Dev nD) : (dats m 0 c).arrAt 14 cfg0.N = result2 m c := by
  refine (dats m 0 c).arrAt_eq_of_covers 14 _ (by decide +kernel) fun t hf y => ?_
  have ht := tlt t
  obtain ⟨⟨h3, h4, h5, h6⟩, ⟨h8, h9, h10⟩, h11, h12⟩ := V_rest m c
  blk_simp
  rw [after0_14, out2, iblk0_eq, iblk1_eq, iblk2_eq, iblk3_eq, iblk4_eq, iblk5_eq, iblk6_eq, iblk7_eq, iblk8_eq, iblk9_eq, iblk10_eq, iblk11_eq, iblk12_eq,
    V_main_arg0, V_main_arg1, V_main_arg2, h3, h4, h5, h6, V_mod, h8, h9, h10, h11, h12, tile2_eq]
  idx_bounds y
  refine congrArg (result2 m c) ?_
  blk_ext [index14]

end Cert.Merge

end
-- ==== Proof.MergeRef.lean ====
/-
  The reference of the merge read at an index over the extended reals.
-/
module

public import proofs.«01_k».proof.Proof.Rows
public import proofs.«01_k».proof.Proof.Gen.Reference2Ideal.Run
public import Idealize.ShloMosaic.PureOps.IdealRules
public import Idealize.ShloMosaic.Lib.Pointwise

@[expose] public section

set_option maxRecDepth 16384

noncomputable section

namespace Cert.MergeRef

open Cert.Reference2Ideal Cert.Reference2Ideal.Gen Cert.Rows
open Idealize.ShloMosaic Idealize.ShloMosaic.TcCoe Idealize.ShloMosaic.Tactic
open Idealize.SL Idealize.SL.Sem

variable (a0 a1 a2 a3 a4 a5 a6 : FVec Ideal S1x16384x1024 .f32) (a7 : FVec Ideal S1x6x1024 .f32) (a8 a9 a10 : FVec Ideal S1024x1024 .f32) (a11 a12 : FVec Ideal S1024 .f32)

/-- A product with a weight matrix. -/
def prod (X : FVec Ideal S1x16384x1024 .f32) (W : FVec Ideal S1024x1024 .f32) : FVec Ideal S1x16384x1024 .f32 :=
  Host.dotGeneral dot_S1x16384x1024_S1024x1024_S1x16384x1024_2_0_01_1_n_n none X W

/-- One row for every token. -/
def each (g : FVec Ideal S1x1x1024 .f32) : FVec Ideal S1x16384x1024 .f32 :=
  broadcastInDim S1x16384x1024 ![0, 1, 2] bcast_S1x1x1024_S1x16384x1024_0_1_2 g

/-- What the first normalisation reads. -/
def before : FVec Ideal S1x16384x1024 .f32 :=
  addf (mulf (broadcastInDim S1x16384x1024 ![] bcast_S_S1x16384x1024 (Host.sqrt (Host.sqrt (constant S_ .f32 0x40000000#32)))) a0)
    (mulf (each (extractStridedSlice S1x1x1024 ![0, 2, 0] a7 slices_S1x6x1024_S1x1x1024_0_2_0))
      (prod (addf (mulf a4 (prod (mulf a3 (addf a1 a2)) a8)) (mulf a5 (prod a6 a9))) a10))

/-- The mean of each row. -/
def means (X : FVec Ideal S1x16384x1024 .f32) : FVec Ideal S1x16384x1 .f32 :=
  Host.divf (broadcastInDim S1x16384x1 ![0, 1] bcast_S1x16384_S1x16384x1_0_1 (Host.reduceAdd X (constant S_ .f32 0x00000000#32) reducesTo_S1x16384x1024_S1x16384_d2 h_S_))
    (broadcastInDim S1x16384x1 ![] bcast_S_S1x16384x1 (constant S_ .f32 0x44800000#32))

/-- One number per row, for every column. -/
def wide (x : FVec Ideal S1x16384x1 .f32) : FVec Ideal S1x16384x1024 .f32 :=
  broadcastInDim S1x16384x1024 ![0, 1, 2] bcast_S1x16384x1_S1x16384x1024_0_1_2 x

/-- The rows normalised. -/
def normed (X : FVec Ideal S1x16384x1024 .f32) : FVec Ideal S1x16384x1024 .f32 :=
  mulf (subf X (wide (means X)))
    (wide (Host.rsqrt (addf (means (mulf (subf X (wide (means X))) (subf X (wide (means X))))) (broadcastInDim S1x16384x1 ![] bcast_S_S1x16384x1 (constant S_ .f32 0x3727C5AC#32)))))

/-- The first result. -/
def result1 : FVec Ideal S1x16384x1024 .f32 :=
  addf (mulf (normed (before a0 a1 a2 a3 a4 a5 a6 a7 a8 a9 a10)) (each (broadcastInDim S1x1x1024 ![2] bcast_S1024_S1x1x1024_2 a11)))
    (each (broadcastInDim S1x1x1024 ![2] bcast_S1024_S1x1x1024_2 a12))

/-- The second result. -/
def result2 : FVec Ideal S1x16384x1024 .bf16 :=
  truncf .bf16 (addf (mulf (normed (result1 a0 a1 a2 a3 a4 a5 a6 a7 a8 a9 a10 a11 a12))
      (each (addf (broadcastInDim S1x1x1024 ![] bcast_S_S1x1x1024 (constant S_ .f32 0x3F800000#32)) (extractStridedSlice S1x1x1024 ![0, 4, 0] a7 slices_S1x6x1024_S1x1x1024_0_4_0))))
    (each (extractStridedSlice S1x1x1024 ![0, 3, 0] a7 slices_S1x6x1024_S1x1x1024_0_3_0))) bitsLt_bf16_f32

theorem prod_apply (X : FVec Ideal S1x16384x1024 .f32) (W : FVec Ideal S1024x1024 .f32) (i : Fin 16384) (e : Fin 1024) :
    prod X W (ix3 0 i e) = ∑ d : Fin 1024, X (ix3 0 i d) * W (ix2 d e) := by
  pointwise [prod]

theorem means_apply (X : FVec Ideal S1x16384x1024 .f32) (i : Fin 16384) (j : Fin 1) : means X (ix3 0 i j) = mean fun d => X (ix3 0 i d) := by
  pointwise [means]
  rfl

theorem wide_apply (x : FVec Ideal S1x16384x1 .f32) (i : Fin 16384) (e : Fin 1024) : wide x (ix3 0 i e) = x (ix3 0 i 0) := by
  pointwise [wide]

theorem each_apply (g : FVec Ideal S1x1x1024 .f32) (i : Fin 16384) (e : Fin 1024) : each g (ix3 0 i e) = g (ix3 0 0 e) := by
  pointwise [each]

theorem normed_apply (X : FVec Ideal S1x16384x1024 .f32) (i : Fin 16384) (e : Fin 1024) : normed X (ix3 0 i e) = normRow (fun d => X (ix3 0 i d)) e := by
  pointwise [normed, wide, means]
  rfl

theorem before_apply (i : Fin 16384) (e : Fin 1024) : before a0 a1 a2 a3 a4 a5 a6 a7 a8 a9 a10 (ix3 0 i e) =
    alpha * a0 (ix3 0 i e) + a7 (ix3 0 2 e) *
      mixed (fun d => a1 (ix3 0 i d)) (fun d => a2 (ix3 0 i d)) (fun d => a3 (ix3 0 i d)) (fun d => a4 (ix3 0 i d)) (fun d => a5 (ix3 0 i d)) (fun d => a6 (ix3 0 i d))
      (fun d k => a8 (ix2 d k)) (fun d k => a9 (ix2 d k)) (fun d k => a10 (ix2 d k)) e := by
  pointwise [before, each, prod]
  rw [sqrt_sqrt]
  rfl

theorem result1_apply (i : Fin 16384) (e : Fin 1024) : result1 a0 a1 a2 a3 a4 a5 a6 a7 a8 a9 a10 a11 a12 (ix3 0 i e) =
    resid (fun d => a0 (ix3 0 i d)) (fun d => a7 (ix3 0 2 d))
      (mixed (fun d => a1 (ix3 0 i d)) (fun d => a2 (ix3 0 i d)) (fun d => a3 (ix3 0 i d)) (fun d => a4 (ix3 0 i d)) (fun d => a5 (ix3 0 i d)) (fun d => a6 (ix3 0 i d))
        (fun d k => a8 (ix2 d k)) (fun d k => a9 (ix2 d k)) (fun d k => a10 (ix2 d k)))
      (fun d => a11 (ix1 d)) (fun d => a12 (ix1 d)) e := by
  pointwise [result1, each]
  rw [normed_apply]
  simp only [before_apply]
  rfl

theorem result2_apply (i : Fin 16384) (e : Fin 1024) : result2 a0 a1 a2 a3 a4 a5 a6 a7 a8 a9 a10 a11 a12 (ix3 0 i e) =
    modulated (fun d => result1 a0 a1 a2 a3 a4 a5 a6 a7 a8 a9 a10 a11 a12 (ix3 0 i d)) (fun d => a7 (ix3 0 3 d)) (fun d => a7 (ix3 0 4 d)) e := by
  pointwise [result2, each]
  rw [normed_apply]
  rfl

variable (m : (ℓ : Loc nD τ sig) → Buf (Elt Ideal) ℓ)

theorem out1 (c : Dev nD) : Value.res_out0 (F := Ideal) m c = result1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) := rfl

theorem out2 (c : Dev nD) : Value.res_out1 (F := Ideal) m c = result2 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) := rfl

end Cert.MergeRef

end
-- ==== Proof.MergeMatch.lean ====
/-
  The merge kernel's results and its reference's are the same.
-/
module

public import proofs.«01_k».proof.Proof.MergeResult
public import proofs.«01_k».proof.Proof.MergeRef

@[expose] public section

set_option maxRecDepth 16384

noncomputable section

namespace Cert.Merge

open Cert.Rows
open Idealize.ShloMosaic Idealize.ShloMosaic.TcCoe Idealize.ShloMosaic.Tactic

open Cert.Reference2Ideal

variable (a0 a1 a2 a3 a4 a5 a6 : FVec Ideal S1x16384x1024 .f32) (a7 : FVec Ideal S1x6x1024 .f32) (a8 a9 a10 : FVec Ideal S1024x1024 .f32) (a11 a12 : FVec Ideal S1024 .f32)

theorem row1_same (i : Fin 16384) : (fun e => MergeRef.result1 a0 a1 a2 a3 a4 a5 a6 a7 a8 a9 a10 a11 a12 (ix3 0 i e)) = full1 a0 a1 a2 a3 a4 a5 a6 a7 a8 a9 a10 a11 a12 i :=
  funext fun e => MergeRef.result1_apply a0 a1 a2 a3 a4 a5 a6 a7 a8 a9 a10 a11 a12 i e

theorem row2_same (i : Fin 16384) : (fun e => MergeRef.result2 a0 a1 a2 a3 a4 a5 a6 a7 a8 a9 a10 a11 a12 (ix3 0 i e)) = full2 a0 a1 a2 a3 a4 a5 a6 a7 a8 a9 a10 a11 a12 i :=
  funext fun e => (MergeRef.result2_apply a0 a1 a2 a3 a4 a5 a6 a7 a8 a9 a10 a11 a12 i e).trans (by rw [row1_same]; rfl)

theorem same1 (y : S1x16384x1024.Idx) : MergeRef.result1 a0 a1 a2 a3 a4 a5 a6 a7 a8 a9 a10 a11 a12 y = full1 a0 a1 a2 a3 a4 a5 a6 a7 a8 a9 a10 a11 a12 (y 1) (y 2) := by
  idx_vars y
  obtain rfl : y0 = 0 := Subsingleton.elim _ _
  exact congrFun (row1_same a0 a1 a2 a3 a4 a5 a6 a7 a8 a9 a10 a11 a12 y1) y2

theorem same2 (y : S1x16384x1024.Idx) : MergeRef.result2 a0 a1 a2 a3 a4 a5 a6 a7 a8 a9 a10 a11 a12 y = full2 a0 a1 a2 a3 a4 a5 a6 a7 a8 a9 a10 a11 a12 (y 1) (y 2) := by
  idx_vars y
  obtain rfl : y0 = 0 := Subsingleton.elim _ _
  exact congrFun (row2_same a0 a1 a2 a3 a4 a5 a6 a7 a8 a9 a10 a11 a12 y1) y2

end Cert.Merge

end
-- ==== Proof.FfnSlots.lean ====
/-
  Reads of the scratch buffers of the feed-forward kernel, and of columns of its arrays.
-/
module

public import proofs.«01_k».proof.Proof.Gen.Kernel3Ideal.Value
public import Idealize.ShloMosaic.PureOps.IdealRules
public import Idealize.ShloMosaic.Lib.Pointwise
public import Idealize.ShloMosaic.Lib.Tactic.RunNames
public import Idealize.ShloMosaic.Lib.Pipeline.ReadBack
public import Idealize.ShloMosaic.Lib.Pipeline.ValueKit.Tiles

@[expose] public section

set_option maxRecDepth 16384

noncomputable section

namespace Cert.Ffn

open Cert.Kernel3Ideal Cert.Kernel3Ideal.Gen
open Idealize.ShloMosaic Idealize.ShloMosaic.TcCoe Idealize.ShloMosaic.Tactic Idealize.ShloMosaic.ValueKit

/-- 256 columns of an array of the up-projection. -/
def cols {n : ℕ} (x : (⟨2, ![n, 2816]⟩ : Shape).Idx → EReal) (o : ℕ) : (⟨2, ![n, 256]⟩ : Shape).Idx → EReal :=
  fun y => x (ix2 (y 0) (Fin.ofNat 2816 (o + (y 1).val)))

/-- 256 columns of an array of the convolution. -/
def taps {n : ℕ} (x : (⟨2, ![n, 5632]⟩ : Shape).Idx → EReal) (o : ℕ) : (⟨2, ![n, 256]⟩ : Shape).Idx → EReal :=
  fun y => x (ix2 (y 0) (Fin.ofNat 5632 (o + (y 1).val)))

/-- 512 of the 544 rows of a block of the hidden layer. -/
def rowsFrom (o : ℕ) (w : Vec Ideal S1x544x256 .f32) : Vec Ideal S1x512x256 .f32 :=
  fun y => w (ix3 0 (Fin.ofNat 544 (o + (y 1).val)) (y 2))

theorem ofNat_val {n o k m : ℕ} [NeZero n] (h : o + m ≤ n) (hk : k < m) : (Fin.ofNat n (o + k)).val = o + k := by
  show (o + k) % n = o + k
  exact Nat.mod_eq_of_lt (by omega)

/-- A unit-stride rectangle places an index at the sum of the two coordinates. -/
theorem unit_idx {s : Shape} (off size : Fin s.rank → ℕ) (inb) (x : (Rect.unit off size inb).shape.Idx) (i : s.Idx) (h : ∀ a, (i a).val = off a + (x a).val) :
    (Rect.unit off size inb).toLoadRect.idx x = i := by
  funext a
  apply Fin.ext
  rw [h a]
  show off a + 1 * (x a).val = _
  rw [one_mul]

theorem ld_cols (x : Vec Ideal S1024x2816 .bf16) (o : ℕ) (inb) :
    View.ld x (Rect.unit (s := S1024x2816) ![0, o] ![1024, 256] inb) = cols x o := by
  funext y
  refine congrArg x (unit_idx _ _ inb y _ fun a => ?_)
  have h := inb 1
  match a with
  | ⟨0, _⟩ => exact (Nat.zero_add _).symm
  | ⟨1, _⟩ => exact ofNat_val (n := 2816) (m := 256) h (y 1).isLt

theorem ld_taps3 (x : Vec Ideal S3x5632 .f32) (o : ℕ) (inb) :
    View.ld x (Rect.unit (s := S3x5632) ![0, o] ![3, 256] inb) = taps x o := by
  funext y
  refine congrArg x (unit_idx _ _ inb y _ fun a => ?_)
  have h := inb 1
  match a with
  | ⟨0, _⟩ => exact (Nat.zero_add _).symm
  | ⟨1, _⟩ => exact ofNat_val (n := 5632) (m := 256) h (y 1).isLt

theorem ld_taps1 (x : Vec Ideal S1x5632 .f32) (o : ℕ) (inb) :
    View.ld x (Rect.unit (s := S1x5632) ![0, o] ![1, 256] inb) = taps x o := by
  funext y
  refine congrArg x (unit_idx _ _ inb y _ fun a => ?_)
  have h := inb 1
  match a with
  | ⟨0, _⟩ => exact (Nat.zero_add _).symm
  | ⟨1, _⟩ => exact ofNat_val (n := 5632) (m := 256) h (y 1).isLt

/-- Rows of a slot read from the store that filled it. -/
theorem slot_hit {κ : Kind} {sp : Space} (v : View sig κ sp S2x544x256 .f32) (w : Vec Ideal S1x544x256 .f32) (L : List (View.Piece (Elt Ideal) S2x544x256 .f32))
    (s o : ℕ) (inb inb') :
    v.readCov (⟨Rect.unit (s := S2x544x256) ![s, 0, 0] ![1, 544, 256] inb, w⟩ :: L) (Rect.unit (s := S2x544x256) ![s, o, 0] ![1, 512, 256] inb').toLoadRect = rowsFrom o w := by
  rw [View.readCov_eq_canon']
  funext y
  have h1 := inb' 1
  refine Eq.trans (congrArg _ ?_) (View.canon_cons_emb (Rect.unit (s := S2x544x256) ![s, 0, 0] ![1, 544, 256] inb) w L (ix3 0 (Fin.ofNat 544 (o + (y 1).val)) (y 2)))
  refine unit_idx _ _ inb' y _ fun a => ?_
  rw [Rect.emb_apply]
  match a with
  | ⟨0, _⟩ =>
    have h0 : (y 0).val < 1 := (y 0).isLt
    show s + 1 * 0 = s + (y 0).val
    omega
  | ⟨1, _⟩ =>
    show 0 + 1 * (Fin.ofNat 544 (o + (y 1).val)).val = o + (y 1).val
    rw [ofNat_val (n := 544) (o := o) (m := 512) h1 (y 1).isLt]; omega
  | ⟨2, _⟩ =>
    show 0 + 1 * (y 2).val = 0 + (y 2).val
    omega

/-- Rows of a slot are not those of a store to the other. -/
theorem slot_miss {κ : Kind} {sp : Space} (v : View sig κ sp S2x544x256 .f32) (w : Vec Ideal S1x544x256 .f32) (L : List (View.Piece (Elt Ideal) S2x544x256 .f32))
    (s s' o : ℕ) (inb inb') (h : s ≠ s') :
    v.readCov (⟨Rect.unit (s := S2x544x256) ![s, 0, 0] ![1, 544, 256] inb, w⟩ :: L) (Rect.unit (s := S2x544x256) ![s', o, 0] ![1, 512, 256] inb').toLoadRect =
      v.readCov L (Rect.unit (s := S2x544x256) ![s', o, 0] ![1, 512, 256] inb').toLoadRect := by
  apply View.readCov_skip
  unfold LoadRect.disj
  apply decide_eq_true
  refine ⟨0, .inr (.inr ?_)⟩
  show s + 1 * 0 < s' ∨ s' + 1 * 0 < s
  omega

end Cert.Ffn

end
-- ==== Proof.FfnScratch.lean ====
/-
  What one grid point of the feed-forward kernel finds in its scratch buffers when it reads them back.
-/
module

public import proofs.«01_k».proof.Proof.FfnSlots

@[expose] public section

set_option maxRecDepth 16384

noncomputable section

namespace Cert.Ffn

open Cert.Kernel3Ideal Cert.Kernel3Ideal.Gen
open Idealize.ShloMosaic Idealize.ShloMosaic.TcCoe Idealize.ShloMosaic.Tactic Idealize.ShloMosaic.ValueKit

/-- A block of the hidden layer. -/
def hidden (ue : Vec Ideal S544x1024 .bf16) (w : Vec Ideal S1024x256 .bf16) : Vec Ideal S1x544x256 .f32 :=
  k0_pay7 (F := Ideal) ue w

/-- A block of the activations. -/
def gatedBlock (ue : Vec Ideal S544x1024 .bf16) (x5 x6 : Vec Ideal S1024x2816 .bf16) (x7 : Vec Ideal S3x5632 .f32) (x8 : Vec Ideal S1x5632 .f32) (j : ℕ) :
    Vec Ideal S512x256 .bf16 :=
  k0_pay13 (F := Ideal) (k0_pay12 (F := Ideal) (taps x7 (256 * j)) (k0_pay10 (F := Ideal) (taps x7 (256 * j)) (rowsFrom 15 (hidden ue (cols x5 (256 * j)))))
    (k0_pay11 (F := Ideal) (taps x8 (256 * j))) (rowsFrom 16 (hidden ue (cols x5 (256 * j)))) (rowsFrom 17 (hidden ue (cols x5 (256 * j))))
    (taps x7 (2816 + 256 * j)) (taps x8 (2816 + 256 * j)) (rowsFrom 15 (hidden ue (cols x6 (256 * j)))) (rowsFrom 16 (hidden ue (cols x6 (256 * j))))
    (rowsFrom 17 (hidden ue (cols x6 (256 * j)))))

theorem block_inb (j : Fin 11) (a : Fin S512x2816.rank) : ![0, 256 * j.val] a + ![512, 256] a ≤ S512x2816.size a := by
  have h := j.isLt
  match a with
  | ⟨0, _⟩ => exact Nat.le_refl 512
  | ⟨1, _⟩ => show 256 * j.val + 256 ≤ 2816; omega

/-- The store of a block of the activations. -/
def piece (ue : Vec Ideal S544x1024 .bf16) (x5 x6 : Vec Ideal S1024x2816 .bf16) (x7 : Vec Ideal S3x5632 .f32) (x8 : Vec Ideal S1x5632 .f32) (j : Fin 11) :
    View.Piece (Elt Ideal) S512x2816 .bf16 :=
  ⟨Rect.unit (s := S512x2816) ![0, 256 * j.val] ![512, 256] (block_inb j), gatedBlock ue x5 x6 x7 x8 j.val⟩

variable (c : Dev nD) (i : grid0.Coords) (arg2 : Memref sig .tc .vmem S1x512x1024 .bf16) (harg2 : arg2.IsWhole) (arg3 : Memref sig .tc .vmem S1x16x1024 .bf16) (harg3 : arg3.IsWhole) (arg4 : Memref sig .tc .vmem S1x16x1024 .bf16) (harg4 : arg4.IsWhole)
  (arg7 : Memref sig .tc .vmem S1024x2816 .bf16) (harg7 : arg7.IsWhole) (arg8 : Memref sig .tc .vmem S1024x2816 .bf16) (harg8 : arg8.IsWhole) (arg9 : Memref sig .tc .vmem S3x5632 .f32) (harg9 : arg9.IsWhole) (arg10 : Memref sig .tc .vmem S1x5632 .f32) (harg10 : arg10.IsWhole)
  (arg15 : Memref sig .tc .vmem S544x1024 .bf16) (arg16 : Memref sig .tc .vmem S2x544x256 .f32) (arg17 : Memref sig .tc .vmem S2x544x256 .f32) (arg18 : Memref sig .tc .vmem S512x2816 .bf16)
  (x0 : Vec Ideal S1x512x1024 .bf16) (x1 x2 : Vec Ideal S1x16x1024 .bf16) (x5 x6 : Vec Ideal S1024x2816 .bf16) (x7 : Vec Ideal S3x5632 .f32) (x8 : Vec Ideal S1x5632 .f32)

set_option maxHeartbeats 4000000 in
/-- The stores that fill the activations. -/
theorem HS3_eq : kernelRun0_A.sl.HS3_11 (F := Ideal) c i arg2 harg2 arg3 harg3 arg4 harg4 arg7 harg7 arg8 harg8 arg9 harg9 arg10 harg10 arg15 arg16 arg17 x0 x1 x2 x5 x6 x7 x8 =
    [10, 9, 8, 7, 6, 5, 4, 3, 2, 1, 0].map (piece (kernelRun0_A.sl.v27 (F := Ideal) c i arg2 harg2 arg3 harg3 arg4 harg4 arg15 x0 x1 x2) x5 x6 x7 x8) := by
  unfold kernelRun0_A.sl.HS3_11
  sl_unfold_run_values
  simp only [kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS2_10, kernelRun0_A.sl.HS2_11]
  sl_unfold_run_values
  simp (disch := decide) only [slot_miss, slot_hit, View.readAt_eq_ld, Memref.IsWhole.read_unread, ld_cols, ld_taps3, ld_taps1]
  rfl

end Cert.Ffn

end
-- ==== Proof.FfnTile.lean ====
/-
  What one grid point of the feed-forward kernel leaves in its result block, at an index.
-/
module

public import proofs.«01_k».proof.Proof.Rows
public import proofs.«01_k».proof.Proof.FfnScratch

@[expose] public section

set_option maxRecDepth 16384

noncomputable section

namespace Cert.Ffn

open Cert.Kernel3Ideal Cert.Kernel3Ideal.Gen Cert.Rows
open Idealize.ShloMosaic Idealize.ShloMosaic.TcCoe Idealize.ShloMosaic.Tactic Idealize.ShloMosaic.ValueKit

/-- Whether the rows before a block are kept: they are but before the first. -/
def keepPrev (i : grid0.Coords) : EReal :=
  Scalar.sitofp (F := Ideal) .f32 (Scalar.extui (Scalar.cmpi .sgt (BitVec.ofNat 32 (i 1).val) 0#32) : BitVec 32)

/-- Whether the rows after a block are kept: they are but after the last. -/
def keepNext (i : grid0.Coords) : EReal :=
  Scalar.sitofp (F := Ideal) .f32 (Scalar.extui (Scalar.cmpi .slt (BitVec.ofNat 32 (i 1).val) 31#32) : BitVec 32)

theorem pay2_apply (i : grid0.Coords) (x : Vec Ideal S1x16x1024 .bf16) (y : S16x1024.Idx) :
    k0_pay2 (F := Ideal) i x y = x (ix3 0 (y 0) (y 1)) * keepPrev i := by
  pointwise [k0_pay2]
  rfl

theorem pay3_apply (x : Vec Ideal S1x512x1024 .bf16) (y : S512x1024.Idx) : k0_pay3 (F := Ideal) x y = x (ix3 0 (y 0) (y 1)) := by
  pointwise [k0_pay3]

theorem pay4_apply (i : grid0.Coords) (x : Vec Ideal S1x16x1024 .bf16) (y : S16x1024.Idx) :
    k0_pay4 (F := Ideal) i x y = x (ix3 0 (y 0) (y 1)) * keepNext i := by
  pointwise [k0_pay4]
  rfl

/-- The rows of a block between the 16 before it and the 16 after it. -/
def rowsIn (i : grid0.Coords) (x0 : Vec Ideal S1x512x1024 .bf16) (x1 x2 : Vec Ideal S1x16x1024 .bf16) : Vec Ideal S544x1024 .bf16 := fun y =>
  if (y 0).val < 16 then x1 (ix3 0 (Fin.ofNat 16 (y 0).val) (y 1)) * keepPrev i
  else if (y 0).val < 528 then x0 (ix3 0 (Fin.ofNat 512 ((y 0).val - 16)) (y 1))
  else x2 (ix3 0 (Fin.ofNat 16 ((y 0).val - 528)) (y 1)) * keepNext i

theorem mem_unit {s : Shape} (off size : Fin s.rank → ℕ) (inb) (y : s.Idx) (h : ∀ a, off a ≤ (y a).val ∧ (y a).val < off a + size a) :
    y ∈ (Rect.unit off size inb).set :=
  LoadRect.mem_set _ |>.mpr fun a => ⟨(y a).val - off a, by have := h a; show _ < size a; omega, by have := h a; show _ = off a + 1 * _; omega⟩

theorem ofNat_of_lt {n k : ℕ} [NeZero n] (a : Fin n) (h : k = a.val) : Fin.ofNat n k = a := by
  subst h
  exact Fin.ext (Nat.mod_eq_of_lt a.isLt)

variable (c : Dev nD) (i : grid0.Coords) (arg2 : Memref sig .tc .vmem S1x512x1024 .bf16) (harg2 : arg2.IsWhole) (arg3 : Memref sig .tc .vmem S1x16x1024 .bf16) (harg3 : arg3.IsWhole) (arg4 : Memref sig .tc .vmem S1x16x1024 .bf16) (harg4 : arg4.IsWhole)
  (arg7 : Memref sig .tc .vmem S1024x2816 .bf16) (harg7 : arg7.IsWhole) (arg8 : Memref sig .tc .vmem S1024x2816 .bf16) (harg8 : arg8.IsWhole) (arg9 : Memref sig .tc .vmem S3x5632 .f32) (harg9 : arg9.IsWhole) (arg10 : Memref sig .tc .vmem S1x5632 .f32) (harg10 : arg10.IsWhole)
  (arg15 : Memref sig .tc .vmem S544x1024 .bf16) (arg16 : Memref sig .tc .vmem S2x544x256 .f32) (arg17 : Memref sig .tc .vmem S2x544x256 .f32) (arg18 : Memref sig .tc .vmem S512x2816 .bf16)
  (x0 : Vec Ideal S1x512x1024 .bf16) (x1 x2 : Vec Ideal S1x16x1024 .bf16) (x5 x6 : Vec Ideal S1024x2816 .bf16) (x7 : Vec Ideal S3x5632 .f32) (x8 : Vec Ideal S1x5632 .f32)

theorem v27_eq : kernelRun0_A.sl.v27 (F := Ideal) c i arg2 harg2 arg3 harg3 arg4 harg4 arg15 x0 x1 x2 = rowsIn i x0 x1 x2 := by
  unfold kernelRun0_A.sl.v27 kernelRun0_A.sl.HS0_3
  rw [View.readCov_eq_canon']
  simp only [View.readAt_eq_ld, Memref.IsWhole.read_unread]
  funext y
  rw [unit_idx (s := S544x1024) ![0, 0] S544x1024.size _ y y (fun a => by match a with | ⟨0, _⟩ => exact (Nat.zero_add _).symm | ⟨1, _⟩ => exact (Nat.zero_add _).symm)]
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl),
    View.ld_unit_zero (by funext a; match a with | ⟨0, _⟩ => rfl | ⟨1, _⟩ => rfl | ⟨2, _⟩ => rfl)]
  apply View.canon_apply_of_pieces (rowsIn i x0 x1 x2)
  · intro p hp x
    simp only [List.mem_cons, List.mem_nil_iff, or_false] at hp
    rcases hp with rfl | rfl | rfl
    · have h := (x 0).isLt
      refine (pay4_apply i x2 x).trans ?_
      show _ = if 528 + 1 * (x 0).val < 16 then _ else if 528 + 1 * (x 0).val < 528 then _ else x2 (ix3 0 (Fin.ofNat 16 (528 + 1 * (x 0).val - 528)) ⟨0 + 1 * (x 1).val, _⟩) * keepNext i
      rw [if_neg (by omega), if_neg (by omega), ofNat_of_lt (n := 16) (x 0) (by omega)]
      congr 3
      exact Fin.ext (by show (x 1).val = 0 + 1 * (x 1).val; omega)
    · have h : (x 0).val < 512 := (x 0).isLt
      refine (pay3_apply x0 x).trans ?_
      show _ = if 16 + 1 * (x 0).val < 16 then _ else if 16 + 1 * (x 0).val < 528 then x0 (ix3 0 (Fin.ofNat 512 (16 + 1 * (x 0).val - 16)) ⟨0 + 1 * (x 1).val, _⟩) else _
      rw [if_neg (by omega), if_pos (by omega), ofNat_of_lt (n := 512) (x 0) (by omega)]
      congr 2
      exact Fin.ext (by show (x 1).val = 0 + 1 * (x 1).val; omega)
    · have h : (x 0).val < 16 := (x 0).isLt
      refine (pay2_apply i x1 x).trans ?_
      show _ = if 0 + 1 * (x 0).val < 16 then x1 (ix3 0 (Fin.ofNat 16 (0 + 1 * (x 0).val)) ⟨0 + 1 * (x 1).val, _⟩) * keepPrev i else _
      rw [if_pos (by omega), ofNat_of_lt (n := 16) (x 0) (by omega)]
      congr 3
      exact Fin.ext (by show (x 1).val = 0 + 1 * (x 1).val; omega)
  · have h0 : (y 0).val < 544 := (y 0).isLt
    have h1 : (y 1).val < 1024 := (y 1).isLt
    by_cases ha : (y 0).val < 16
    · refine ⟨_, List.mem_cons_of_mem _ (List.mem_cons_of_mem _ (List.mem_cons_self ..)), mem_unit (s := S544x1024) ![0, 0] ![16, 1024] inb_S544x1024_S16x1024_0_0 y fun a => ?_⟩
      match a with
      | ⟨0, _⟩ => exact ⟨Nat.zero_le _, by show (y 0).val < 0 + 16; omega⟩
      | ⟨1, _⟩ => exact ⟨Nat.zero_le _, by show (y 1).val < 0 + 1024; omega⟩
    by_cases hb : (y 0).val < 528
    · refine ⟨_, List.mem_cons_of_mem _ (List.mem_cons_self ..), mem_unit (s := S544x1024) ![16, 0] ![512, 1024] inb_S544x1024_S512x1024_16_0 y fun a => ?_⟩
      match a with
      | ⟨0, _⟩ => exact ⟨by show 16 ≤ (y 0).val; omega, by show (y 0).val < 16 + 512; omega⟩
      | ⟨1, _⟩ => exact ⟨Nat.zero_le _, by show (y 1).val < 0 + 1024; omega⟩
    · refine ⟨_, List.mem_cons_self .., mem_unit (s := S544x1024) ![528, 0] ![16, 1024] inb_S544x1024_S16x1024_528_0 y fun a => ?_⟩
      match a with
      | ⟨0, _⟩ => exact ⟨by show 528 ≤ (y 0).val; omega, by show (y 0).val < 528 + 16; omega⟩
      | ⟨1, _⟩ => exact ⟨Nat.zero_le _, by show (y 1).val < 0 + 1024; omega⟩

/-- The hidden layer's column `q` at a row. -/
def tap (ue : Vec Ideal S544x1024 .bf16) (w : Vec Ideal S1024x2816 .bf16) (o : ℕ) (r : Fin 512) (q : Fin 2816) : EReal :=
  ∑ d : Fin 1024, ue (ix2 (Fin.ofNat 544 (o + r.val)) d) * w (ix2 d q)

/-- Column `p` of the convolution of three rows of the hidden layer. -/
def conv (ue : Vec Ideal S544x1024 .bf16) (w : Vec Ideal S1024x2816 .bf16) (x7 : Vec Ideal S3x5632 .f32) (x8 : Vec Ideal S1x5632 .f32) (r : Fin 512) (q : Fin 2816) (p : Fin 5632) : EReal :=
  x8 (ix2 0 p) + x7 (ix2 0 p) * tap ue w 15 r q + x7 (ix2 1 p) * tap ue w 16 r q + x7 (ix2 2 p) * tap ue w 17 r q

/-- The activations of a block. -/
def acts (ue : Vec Ideal S544x1024 .bf16) (x5 x6 : Vec Ideal S1024x2816 .bf16) (x7 : Vec Ideal S3x5632 .f32) (x8 : Vec Ideal S1x5632 .f32) : Vec Ideal S512x2816 .bf16 := fun y =>
  conv ue x6 x7 x8 (y 0) (y 1) (Fin.ofNat 5632 (2816 + (y 1).val)) * Ideal.logistic (conv ue x6 x7 x8 (y 0) (y 1) (Fin.ofNat 5632 (2816 + (y 1).val))) *
    conv ue x5 x7 x8 (y 0) (y 1) (Fin.ofNat 5632 (y 1).val)

theorem hidden_apply (ue : Vec Ideal S544x1024 .bf16) (w : Vec Ideal S1024x256 .bf16) (i : Fin 1) (r : Fin 544) (k : Fin 256) :
    hidden ue w (ix3 i r k) = ∑ d : Fin 1024, ue (ix2 r d) * w (ix2 d k) := by
  pointwise [hidden, k0_pay7]

theorem rowsFrom_apply (ue : Vec Ideal S544x1024 .bf16) (x : Vec Ideal S1024x2816 .bf16) (o p : ℕ) (i : Fin 1) (r : Fin 512) (k : Fin 256) :
    rowsFrom o (hidden ue (cols x p)) (ix3 i r k) = tap ue x o r (Fin.ofNat 2816 (p + k.val)) :=
  hidden_apply ue _ _ _ _

/-- A gated unit of three rows of each half. -/
theorem chunk_apply (cv : Vec Ideal S3x256 .f32) (bv : Vec Ideal S1x256 .f32) (a0 a1 a2 : Vec Ideal S1x512x256 .f32) (cg : Vec Ideal S3x256 .f32) (bg : Vec Ideal S1x256 .f32)
    (b0 b1 b2 : Vec Ideal S1x512x256 .f32) (r : Fin 512) (k : Fin 256) :
    k0_pay13 (F := Ideal) (k0_pay12 (F := Ideal) cv (k0_pay10 (F := Ideal) cv a0) (k0_pay11 (F := Ideal) bv) a1 a2 cg bg b0 b1 b2) (ix2 r k) =
      (bg (ix2 0 k) + cg (ix2 0 k) * b0 (ix3 0 r k) + cg (ix2 1 k) * b1 (ix3 0 r k) + cg (ix2 2 k) * b2 (ix3 0 r k)) *
        Ideal.logistic (bg (ix2 0 k) + cg (ix2 0 k) * b0 (ix3 0 r k) + cg (ix2 1 k) * b1 (ix3 0 r k) + cg (ix2 2 k) * b2 (ix3 0 r k)) *
        (bv (ix2 0 k) + cv (ix2 0 k) * a0 (ix3 0 r k) + cv (ix2 1 k) * a1 (ix3 0 r k) + cv (ix2 2 k) * a2 (ix3 0 r k)) := by
  pointwise [k0_pay10, k0_pay11, k0_pay12, k0_pay13]

theorem gatedBlock_apply (ue : Vec Ideal S544x1024 .bf16) (x5 x6 : Vec Ideal S1024x2816 .bf16) (x7 : Vec Ideal S3x5632 .f32) (x8 : Vec Ideal S1x5632 .f32) (j : ℕ) (hj : j < 11)
    (r : Fin 512) (k : Fin 256) : gatedBlock ue x5 x6 x7 x8 j (ix2 r k) = acts ue x5 x6 x7 x8 (ix2 r (Fin.ofNat 2816 (256 * j + k.val))) := by
  have hv : (Fin.ofNat 2816 (256 * j + k.val)).val = 256 * j + k.val := Nat.mod_eq_of_lt (by omega)
  unfold gatedBlock
  rw [chunk_apply]
  simp only [rowsFrom_apply]
  show _ = conv ue x6 x7 x8 r (Fin.ofNat 2816 (256 * j + k.val)) (Fin.ofNat 5632 (2816 + (Fin.ofNat 2816 (256 * j + k.val)).val)) *
    Ideal.logistic (conv ue x6 x7 x8 r (Fin.ofNat 2816 (256 * j + k.val)) (Fin.ofNat 5632 (2816 + (Fin.ofNat 2816 (256 * j + k.val)).val))) *
    conv ue x5 x7 x8 r (Fin.ofNat 2816 (256 * j + k.val)) (Fin.ofNat 5632 (Fin.ofNat 2816 (256 * j + k.val)).val)
  rw [hv, ← Nat.add_assoc 2816]
  rfl

theorem idx_eq (j : ℕ) (y : S512x2816.Idx) (x : S512x256.Idx) (h0 : (y 0).val = (x 0).val) (h1 : (y 1).val = 256 * j + (x 1).val) :
    ix2 (x 0) (Fin.ofNat 2816 (256 * j + (x 1).val)) = y := by
  funext a
  match a with
  | ⟨0, _⟩ => exact Fin.ext h0.symm
  | ⟨1, _⟩ => exact ofNat_of_lt (n := 2816) (y 1) h1.symm

theorem piece_eq (ue : Vec Ideal S544x1024 .bf16) (x5 x6 : Vec Ideal S1024x2816 .bf16) (x7 : Vec Ideal S3x5632 .f32) (x8 : Vec Ideal S1x5632 .f32) (j : Fin 11) (x : S512x256.Idx) :
    (piece ue x5 x6 x7 x8 j).2 x = acts ue x5 x6 x7 x8 ((piece ue x5 x6 x7 x8 j).1.emb x) := by
  have hx : ix2 (x 0) (x 1) = x := by funext a; match a with | ⟨0, _⟩ => rfl | ⟨1, _⟩ => rfl
  refine ((congrArg (gatedBlock ue x5 x6 x7 x8 j.val) hx.symm).trans (gatedBlock_apply ue x5 x6 x7 x8 j.val j.isLt (x 0) (x 1))).trans (congrArg _ (idx_eq j.val _ x ?_ ?_))
  · show 0 + 1 * (x 0).val = _
    omega
  · show 256 * j.val + 1 * (x 1).val = _
    omega

theorem piece_mem (ue : Vec Ideal S544x1024 .bf16) (x5 x6 : Vec Ideal S1024x2816 .bf16) (x7 : Vec Ideal S3x5632 .f32) (x8 : Vec Ideal S1x5632 .f32) (j : Fin 11) (y : S512x2816.Idx)
    (h : 256 * j.val ≤ (y 1).val ∧ (y 1).val < 256 * j.val + 256) : y ∈ (piece ue x5 x6 x7 x8 j).1.set := by
  refine mem_unit _ _ (block_inb j) y fun a => ?_
  match a with
  | ⟨0, _⟩ =>
    have h0 : (y 0).val < 512 := (y 0).isLt
    exact ⟨Nat.zero_le _, by show (y 0).val < 0 + 512; omega⟩
  | ⟨1, _⟩ => exact h

/-- The activations read back. -/
theorem acts_eq (arg18 : Memref sig .tc .vmem S512x2816 .bf16) :
    arg18.view.readCov (kernelRun0_A.sl.HS3_11 (F := Ideal) c i arg2 harg2 arg3 harg3 arg4 harg4 arg7 harg7 arg8 harg8 arg9 harg9 arg10 harg10 arg15 arg16 arg17 x0 x1 x2 x5 x6 x7 x8)
      (Rect.unit ![0, 0] S512x2816.size inb_S512x2816_S512x2816_0_0).toLoadRect = acts (rowsIn i x0 x1 x2) x5 x6 x7 x8 := by
  rw [HS3_eq, v27_eq, View.readCov_eq_canon']
  funext y
  rw [unit_idx (s := S512x2816) ![0, 0] S512x2816.size _ y y (fun a => by match a with | ⟨0, _⟩ => exact (Nat.zero_add _).symm | ⟨1, _⟩ => exact (Nat.zero_add _).symm)]
  apply View.canon_apply_of_pieces (acts (rowsIn i x0 x1 x2) x5 x6 x7 x8)
  · intro p hp
    obtain ⟨j, _, rfl⟩ := List.mem_map.mp hp
    exact piece_eq _ x5 x6 x7 x8 j
  · have h1 : (y 1).val < 2816 := (y 1).isLt
    refine ⟨_, List.mem_map_of_mem (a := ⟨(y 1).val / 256, by omega⟩) ?_, piece_mem _ x5 x6 x7 x8 _ y ?_⟩
    · generalize (⟨(y 1).val / 256, _⟩ : Fin 11) = j
      revert j
      decide
    · show 256 * ((y 1).val / 256) ≤ _ ∧ _ < 256 * ((y 1).val / 256) + 256
      omega

theorem alpha_named : Named.named (F := Ideal) Cert.Kernel3Ideal.κ "dn_alpha" (φ := .f32) 0x3F9837F0#32 = alpha :=
  IdealRules.named_const.ideal_named_scalar _ _ _ _ rfl

theorem pay1_apply (a : Vec Ideal S512x2816 .bf16) (wd : Vec Ideal S2816x1024 .bf16) (md : Vec Ideal S1x8x1024 .f32) (x : Vec Ideal S1x512x1024 .f32) (g b : Vec Ideal S1x1024 .f32)
    (i : Fin 1) (r : Fin 512) (e : Fin 1024) :
    k0_pay1 (F := Ideal) (k0_pay75 (F := Ideal) a wd md x) (k0_pay76 (F := Ideal) a wd md x) (FloatOps.ofBits FTy.f32 0x3727C5AC#32) g b (ix3 i r e) =
      resid (fun d => x (ix3 0 r d)) (fun d => md (ix3 0 5 d)) (fun d => ∑ q : Fin 2816, a (ix2 r q) * wd (ix2 q d)) (fun d => g (ix2 0 d)) (fun d => b (ix2 0 d)) e := by
  pointwise [k0_pay1, k0_pay75, k0_pay76]
  rw [alpha_named]
  rfl

/-- The result block of a grid point, at an index. -/
theorem outs_eq (m : (ℓ : Loc nD τ sig) → Buf (Elt Ideal) ℓ) (c : Dev nD) (t : Fin cfg0.N) (k : Fin 1) (r : Fin 512) (e : Fin 1024) :
    outsAt0 m c t (ix3 k r e) =
      resid (fun d => iblk m c 3 t (ix3 0 r d)) (fun d => iblk m c 4 t (ix3 0 5 d))
        (fun d => ∑ q : Fin 2816, acts (rowsIn (grid0.coords t) (iblk m c 0 t) (iblk m c 1 t) (iblk m c 2 t)) (iblk m c 5 t) (iblk m c 6 t) (iblk m c 7 t) (iblk m c 8 t) (ix2 r q) *
          iblk m c 9 t (ix2 q d))
        (fun d => iblk m c 10 t (ix2 0 d)) (fun d => iblk m c 11 t (ix2 0 d)) e := by
  refine Eq.trans ?_ (pay1_apply _ _ _ _ _ _ k r e)
  refine congrFun ?_ _
  unfold outsAt0 out0_A_12
  rw [View.read_writes_junk_eq_canon]
  unfold kernelRun0_A
  dsimp only
  sl_unfold_run_values
  rw [View.canon_unit_zero (by funext a; match a with | ⟨0, _⟩ => rfl | ⟨1, _⟩ => rfl | ⟨2, _⟩ => rfl)]
  rw [acts_eq]
  simp only [View.readAt_eq_ld, Memref.IsWhole.read_unread]
  rw [View.ld_unit_zero (by funext a; match a with | ⟨0, _⟩ => rfl | ⟨1, _⟩ => rfl), View.ld_unit_zero (by funext a; match a with | ⟨0, _⟩ => rfl | ⟨1, _⟩ => rfl | ⟨2, _⟩ => rfl),
    View.ld_unit_zero (by funext a; match a with | ⟨0, _⟩ => rfl | ⟨1, _⟩ => rfl | ⟨2, _⟩ => rfl), View.ld_unit_zero (by funext a; match a with | ⟨0, _⟩ => rfl | ⟨1, _⟩ => rfl),
    View.ld_unit_zero (by funext a; match a with | ⟨0, _⟩ => rfl | ⟨1, _⟩ => rfl)]

end Cert.Ffn

end
-- ==== Proof.FfnRows.lean ====
/-
  The feed-forward layer's row at one token.
-/
module

public import proofs.«01_k».proof.Proof.Rows
public import Idealize.ShloMosaic.Lib.Pointwise

@[expose] public section

noncomputable section

namespace Cert.Ffn

open Cert.Rows
open Idealize.ShloMosaic

/-- The hidden layer's column `p` at the token before position `n`, counted from 1, and 0 outside the tokens. -/
def upAt (u : (⟨3, ![1, 16384, 1024]⟩ : Shape).Idx → EReal) (w : (⟨2, ![1024, 5632]⟩ : Shape).Idx → EReal) (n : ℕ) (p : Fin 5632) : EReal :=
  if 1 ≤ n ∧ n ≤ 16384 then ∑ d : Fin 1024, u (ix3 0 (Fin.ofNat 16384 (n - 1)) d) * w (ix2 d p) else 0

/-- The convolution of three tokens of the hidden layer. -/
def convAt (u : (⟨3, ![1, 16384, 1024]⟩ : Shape).Idx → EReal) (w : (⟨2, ![1024, 5632]⟩ : Shape).Idx → EReal) (cw : (⟨2, ![3, 5632]⟩ : Shape).Idx → EReal)
    (cb : (⟨1, ![5632]⟩ : Shape).Idx → EReal) (n : ℕ) (p : Fin 5632) : EReal :=
  cb (ix1 p) + cw (ix2 0 p) * upAt u w n p + cw (ix2 1 p) * upAt u w (n + 1) p + cw (ix2 2 p) * upAt u w (n + 2) p

/-- One half of the convolution, gated by the other. -/
def actAt (u : (⟨3, ![1, 16384, 1024]⟩ : Shape).Idx → EReal) (w : (⟨2, ![1024, 5632]⟩ : Shape).Idx → EReal) (cw : (⟨2, ![3, 5632]⟩ : Shape).Idx → EReal)
    (cb : (⟨1, ![5632]⟩ : Shape).Idx → EReal) (n : ℕ) (q : Fin 2816) : EReal :=
  convAt u w cw cb n (Fin.ofNat 5632 (2816 + q.val)) * Ideal.logistic (convAt u w cw cb n (Fin.ofNat 5632 (2816 + q.val))) * convAt u w cw cb n (Fin.ofNat 5632 q.val)

/-- The layer's row at token `i`. -/
def fullRow (u x : (⟨3, ![1, 16384, 1024]⟩ : Shape).Idx → EReal) (md : (⟨3, ![1, 6, 1024]⟩ : Shape).Idx → EReal) (w : (⟨2, ![1024, 5632]⟩ : Shape).Idx → EReal)
    (cw : (⟨2, ![3, 5632]⟩ : Shape).Idx → EReal) (cb : (⟨1, ![5632]⟩ : Shape).Idx → EReal) (wd : (⟨2, ![2816, 1024]⟩ : Shape).Idx → EReal)
    (g b : (⟨1, ![1024]⟩ : Shape).Idx → EReal) (i : Fin 16384) : Row :=
  resid (fun d => x (ix3 0 i d)) (fun d => md (ix3 0 5 d)) (fun d => ∑ q : Fin 2816, actAt u w cw cb i.val q * wd (ix2 q d)) (fun d => g (ix1 d)) (fun d => b (ix1 d))

end Cert.Ffn

end
-- ==== Proof.FfnResult.lean ====
/-
  The feed-forward kernel's result array as a function of the arguments.
-/
module

public import proofs.«01_k».proof.Proof.FfnTile
public import proofs.«01_k».proof.Proof.FfnRows
public import Idealize.ShloMosaic.Lib.Pipeline.ValueKit.Geometry

@[expose] public section

set_option maxRecDepth 16384

noncomputable section

namespace Cert.Ffn

open Cert.Kernel3Ideal Cert.Kernel3Ideal.Gen Cert.Rows
open Idealize.ShloMosaic Idealize.ShloMosaic.TcCoe Idealize.ShloMosaic.Tactic Idealize.ShloMosaic.ValueKit
open Idealize.SL Idealize.SL.Sem

/-- Block `t` of the rows. -/
def rowBlk {e : EltTy} (X : Vec Ideal S1x16384x1024 e) (t : ℕ) : Vec Ideal S1x512x1024 e := fun x =>
  X (ix3 0 ⟨(512 * t + (x 1).val) % 16384, Nat.mod_lt _ (by decide)⟩ (x 2))

/-- Block `b` of 16 rows. -/
def edge {e : EltTy} (X : Vec Ideal S1x16384x1024 e) (b : ℕ) : Vec Ideal S1x16x1024 e := fun x =>
  X (ix3 0 ⟨(16 * b + (x 1).val) % 16384, Nat.mod_lt _ (by decide)⟩ (x 2))

theorem index0 : ∀ t : Fin cfg0.N, win0_0.index t = ![0, t.val, 0] := (by decide +kernel : ∀ t : Fin grid0.N, _)
theorem index1 : ∀ t : Fin cfg0.N, win0_1.index t = ![0, 32 * t.val - 1, 0] := (by decide +kernel : ∀ t : Fin grid0.N, _)
theorem index2 : ∀ t : Fin cfg0.N, win0_2.index t = ![0, min (32 * t.val + 32) 1023, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index12 : ∀ t : Fin cfg0.N, win0_12.index t = ![0, t.val, 0] := (by decide +kernel : ∀ t : Fin grid0.N, _)
theorem coord1 : ∀ t : Fin cfg0.N, (grid0.coords t 1).val = t.val := (by decide +kernel : ∀ t : Fin grid0.N, _)

theorem tlt (t : Fin cfg0.N) : t.val < 32 := lt_of_lt_of_eq t.isLt N_0

theorem read0_eq (A : (Pipeline.arrRef spec0 0).ty.Contents (Elt Ideal)) (t : Fin cfg0.N) : ((cfg0.win 0).blk t).view.read (Elt Ideal) A = rowBlk A t.val := by
  have ht := tlt t
  funext y
  blk_simp
  unfold rowBlk
  congr 1
  idx_bounds y
  blk_ext [index0]

theorem read1_eq (A : (Pipeline.arrRef spec0 1).ty.Contents (Elt Ideal)) (t : Fin cfg0.N) : ((cfg0.win 1).blk t).view.read (Elt Ideal) A = edge A (32 * t.val - 1) := by
  have ht := tlt t
  funext y
  blk_simp
  unfold edge
  congr 1
  idx_bounds y
  blk_ext [index1]

theorem read2_eq (A : (Pipeline.arrRef spec0 2).ty.Contents (Elt Ideal)) (t : Fin cfg0.N) : ((cfg0.win 2).blk t).view.read (Elt Ideal) A = edge A (min (32 * t.val + 32) 1023) := by
  have ht := tlt t
  funext y
  blk_simp
  unfold edge
  congr 1
  idx_bounds y
  blk_ext [index2]

theorem read4_eq (A : (Pipeline.arrRef spec0 4).ty.Contents (Elt Ideal)) (t : Fin cfg0.N) : ((cfg0.win 4).blk t).view.read (Elt Ideal) A = A := by
  funext y
  blk_simp
  congr 1
  idx_bounds y
  blk_ext [index4]

theorem read5_eq (A : (Pipeline.arrRef spec0 5).ty.Contents (Elt Ideal)) (t : Fin cfg0.N) : ((cfg0.win 5).blk t).view.read (Elt Ideal) A = A := by
  funext y
  blk_simp
  congr 1
  idx_bounds y
  blk_ext [index5]

theorem read7_eq (A : (Pipeline.arrRef spec0 7).ty.Contents (Elt Ideal)) (t : Fin cfg0.N) : ((cfg0.win 7).blk t).view.read (Elt Ideal) A = A := by
  funext y
  blk_simp
  congr 1
  idx_bounds y
  blk_ext [index7]

theorem read8_eq (A : (Pipeline.arrRef spec0 8).ty.Contents (Elt Ideal)) (t : Fin cfg0.N) : ((cfg0.win 8).blk t).view.read (Elt Ideal) A = A := by
  funext y
  blk_simp
  congr 1
  idx_bounds y
  blk_ext [index8]

theorem read9_eq (A : (Pipeline.arrRef spec0 9).ty.Contents (Elt Ideal)) (t : Fin cfg0.N) : ((cfg0.win 9).blk t).view.read (Elt Ideal) A = A := by
  funext y
  blk_simp
  congr 1
  idx_bounds y
  blk_ext [index9]

theorem read10_eq (A : (Pipeline.arrRef spec0 10).ty.Contents (Elt Ideal)) (t : Fin cfg0.N) : ((cfg0.win 10).blk t).view.read (Elt Ideal) A = A := by
  funext y
  blk_simp
  congr 1
  idx_bounds y
  blk_ext [index10]

variable (m : (ℓ : Loc nD τ sig) → Buf (Elt Ideal) ℓ)

theorem iblk0_eq (c : Dev nD) (t : Fin cfg0.N) : iblk m c 0 t = rowBlk (V m c main_v1) t.val := read0_eq (V m c main_v1) t
theorem iblk1_eq (c : Dev nD) (t : Fin cfg0.N) : iblk m c 1 t = edge (V m c main_v1) (32 * t.val - 1) := read1_eq (V m c main_v1) t
theorem iblk2_eq (c : Dev nD) (t : Fin cfg0.N) : iblk m c 2 t = edge (V m c main_v1) (min (32 * t.val + 32) 1023) := read2_eq (V m c main_v1) t
theorem iblk3_eq (c : Dev nD) (t : Fin cfg0.N) : iblk m c 3 t = rowBlk (V m c main_arg1) t.val := read0_eq (V m c main_arg1) t
theorem iblk4_eq (c : Dev nD) (t : Fin cfg0.N) : iblk m c 4 t = V m c main_v0 := read4_eq (V m c main_v0) t
theorem iblk5_eq (c : Dev nD) (t : Fin cfg0.N) : iblk m c 5 t = V m c main_v3 := read5_eq (V m c main_v3) t
theorem iblk6_eq (c : Dev nD) (t : Fin cfg0.N) : iblk m c 6 t = V m c main_v5 := read5_eq (V m c main_v5) t
theorem iblk7_eq (c : Dev nD) (t : Fin cfg0.N) : iblk m c 7 t = V m c main_arg4 := read7_eq (V m c main_arg4) t
theorem iblk8_eq (c : Dev nD) (t : Fin cfg0.N) : iblk m c 8 t = V m c main_v6 := read8_eq (V m c main_v6) t
theorem iblk9_eq (c : Dev nD) (t : Fin cfg0.N) : iblk m c 9 t = V m c main_v7 := read9_eq (V m c main_v7) t
theorem iblk10_eq (c : Dev nD) (t : Fin cfg0.N) : iblk m c 10 t = V m c main_v8 := read10_eq (V m c main_v8) t
theorem iblk11_eq (c : Dev nD) (t : Fin cfg0.N) : iblk m c 11 t = V m c main_v9 := read10_eq (V m c main_v9) t

/-- The modulation's six rows and two more. -/
def padded (a : FVec Ideal S1x6x1024 .f32) : FVec Ideal S1x8x1024 .f32 :=
  pad S1x8x1024 ![0, 0, 0] ![0, 2, 0] ![0, 0, 0] a (sitofp (F := Ideal) .f32 (constantI S_ 32 0#32)) pads_S1x6x1024_S1x8x1024_000_020_000 h_S_

/-- A vector as one row. -/
def line (a : FVec Ideal S1024 .f32) : FVec Ideal S1x1024 .f32 := broadcastInDim S1x1024 ![1] bcast_S1024_S1x1024_1 a

/-- The convolution's bias as one row. -/
def biasLine (a : FVec Ideal S5632 .f32) : FVec Ideal S1x5632 .f32 := broadcastInDim S1x5632 ![1] bcast_S5632_S1x5632_1 a

/-- The half of the up-projection that is kept. -/
def left (a : FVec Ideal S1024x5632 .f32) : FVec Ideal S1024x2816 .f32 := extractStridedSlice S1024x2816 ![0, 0] a slices_S1024x5632_S1024x2816_0_0

/-- The half that gates it. -/
def right (a : FVec Ideal S1024x5632 .f32) : FVec Ideal S1024x2816 .f32 := extractStridedSlice S1024x2816 ![0, 2816] a slices_S1024x5632_S1024x2816_0_2816

theorem padded_apply (a : FVec Ideal S1x6x1024 .f32) (r : Fin 6) (d : Fin 1024) : padded a (ix3 0 ⟨r.val, by omega⟩ d) = a (ix3 0 r d) := by
  pointwise [padded]

theorem line_apply (a : FVec Ideal S1024 .f32) (d : Fin 1024) : line a (ix2 0 d) = a (ix1 d) := by
  pointwise [line]

theorem biasLine_apply (a : FVec Ideal S5632 .f32) (d : Fin 5632) : biasLine a (ix2 0 d) = a (ix1 d) := by
  pointwise [biasLine]

theorem left_apply (a : FVec Ideal S1024x5632 .f32) (d : Fin 1024) (q : Fin 2816) : left a (ix2 d q) = a (ix2 d (Fin.ofNat 5632 q.val)) := by
  rw [ofNat_of_lt (n := 5632) (k := q.val) ⟨q.val, by omega⟩ rfl]
  pointwise [left]

theorem right_apply (a : FVec Ideal S1024x5632 .f32) (d : Fin 1024) (q : Fin 2816) : right a (ix2 d q) = a (ix2 d (Fin.ofNat 5632 (2816 + q.val))) := by
  rw [ofNat_of_lt (n := 5632) (k := 2816 + q.val) ⟨2816 + q.val, by omega⟩ rfl]
  pointwise [right]

theorem V_mod (c : Dev nD) : V m c main_v0 = padded (m ((c.tc : Thread nD τ).loc main_arg2)) := by
  unfold V
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  rfl

/-- The other arrays the kernel reads: parts of the arguments, a cast being the identity over the extended reals. -/
theorem V_rest (c : Dev nD) :
    (V m c main_v1 = m ((c.tc : Thread nD τ).loc main_arg0) ∧ V m c main_v3 = left (m ((c.tc : Thread nD τ).loc main_arg3)) ∧ V m c main_v5 = right (m ((c.tc : Thread nD τ).loc main_arg3)))
    ∧ (V m c main_v6 = biasLine (m ((c.tc : Thread nD τ).loc main_arg5)) ∧ V m c main_v7 = m ((c.tc : Thread nD τ).loc main_arg6))
    ∧ V m c main_v8 = line (m ((c.tc : Thread nD τ).loc main_arg7)) ∧ V m c main_v9 = line (m ((c.tc : Thread nD τ).loc main_arg8)) := by
  unfold V
  simp only [hostOps0, hostOps0_1, hostOps0_2, List.flatten_cons, List.flatten_nil, List.append_nil, List.cons_append, List.nil_append]
  refine ⟨⟨?_, ?_, ?_⟩, ⟨?_, ?_⟩, ?_, ?_⟩ <;> (after_results; rfl)

end Cert.Ffn

end
-- ==== Proof.FfnFinal.lean ====
/-
  The feed-forward kernel's result array, row by row.
-/
module

public import proofs.«01_k».proof.Proof.FfnResult

@[expose] public section

set_option maxRecDepth 16384

noncomputable section

namespace Cert.Ffn

open Cert.Kernel3Ideal Cert.Kernel3Ideal.Gen Cert.Rows
open Idealize.ShloMosaic Idealize.ShloMosaic.TcCoe Idealize.ShloMosaic.Tactic Idealize.ShloMosaic.ValueKit
open Idealize.SL Idealize.SL.Sem

theorem word0 : (Scalar.sitofp (F := Ideal) .f32 0#32 : EReal) = 0 := by
  show (((0#32 : BitVec 32).toInt : ℝ) : EReal) = 0
  simp

theorem word1 : (Scalar.sitofp (F := Ideal) .f32 1#32 : EReal) = 1 := by
  show (((1#32 : BitVec 32).toInt : ℝ) : EReal) = 1
  simp

theorem prev_word : ∀ n : Fin 32, (Scalar.extui (Scalar.cmpi .sgt (BitVec.ofNat 32 n.val) 0#32) : BitVec 32) = if n.val = 0 then 0#32 else 1#32 := by decide +kernel

theorem next_word : ∀ n : Fin 32, (Scalar.extui (Scalar.cmpi .slt (BitVec.ofNat 32 n.val) 31#32) : BitVec 32) = if n.val = 31 then 0#32 else 1#32 := by decide +kernel

theorem keepPrev_eq (t : Fin cfg0.N) : keepPrev (grid0.coords t) = if t.val = 0 then 0 else 1 := by
  unfold keepPrev
  rw [coord1, prev_word ⟨t.val, tlt t⟩]
  split
  · exact word0
  · exact word1

theorem keepNext_eq (t : Fin cfg0.N) : keepNext (grid0.coords t) = if t.val = 31 then 0 else 1 := by
  unfold keepNext
  rw [coord1, next_word ⟨t.val, tlt t⟩]
  split
  · exact word0
  · exact word1

section rows

variable (u : FVec Ideal S1x16384x1024 .bf16) (t : Fin cfg0.N)

/-- The rows of block `t` and its neighbours. -/
abbrev near : Vec Ideal S544x1024 .bf16 := rowsIn (grid0.coords t) (rowBlk u t.val) (edge u (32 * t.val - 1)) (edge u (min (32 * t.val + 32) 1023))

/-- A row of the block and its neighbours is a row of the tokens, or 0 outside them. -/
theorem near_apply (k : ℕ) (hk : k < 514) (d : Fin 1024) :
    near u t (ix2 (Fin.ofNat 544 (15 + k)) d) =
      if 1 ≤ 512 * t.val + k ∧ 512 * t.val + k ≤ 16384 then u (ix3 0 (Fin.ofNat 16384 (512 * t.val + k - 1)) d) else 0 := by
  have ht := tlt t
  have hv : (Fin.ofNat 544 (15 + k)).val = 15 + k := Nat.mod_eq_of_lt (by omega)
  unfold near rowsIn
  show (if (Fin.ofNat 544 (15 + k)).val < 16 then edge (e := .bf16) u (32 * t.val - 1) (ix3 0 (Fin.ofNat 16 (Fin.ofNat 544 (15 + k)).val) d) * keepPrev (grid0.coords t)
    else if (Fin.ofNat 544 (15 + k)).val < 528 then rowBlk (e := .bf16) u t.val (ix3 0 (Fin.ofNat 512 ((Fin.ofNat 544 (15 + k)).val - 16)) d)
    else edge (e := .bf16) u (min (32 * t.val + 32) 1023) (ix3 0 (Fin.ofNat 16 ((Fin.ofNat 544 (15 + k)).val - 528)) d) * keepNext (grid0.coords t)) = _
  rw [hv, keepPrev_eq, keepNext_eq]
  by_cases h0 : 15 + k < 16
  · rw [if_pos h0]
    by_cases h : t.val = 0
    · rw [if_pos h, mul_zero, if_neg (by omega)]
    · rw [if_neg h, mul_one, if_pos (by omega)]
      unfold edge
      refine congrArg (fun r => u (ix3 0 r d)) (Fin.ext ?_)
      show (16 * (32 * t.val - 1) + (15 + k) % 16) % 16384 = (512 * t.val + k - 1) % 16384
      omega
  rw [if_neg h0]
  by_cases h1 : 15 + k < 528
  · rw [if_pos h1, if_pos (by omega)]
    unfold rowBlk
    refine congrArg (fun r => u (ix3 0 r d)) (Fin.ext ?_)
    show (512 * t.val + (15 + k - 16) % 512) % 16384 = (512 * t.val + k - 1) % 16384
    omega
  · rw [if_neg h1]
    by_cases h : t.val = 31
    · rw [if_pos h, mul_zero, if_neg (by omega)]
    · rw [if_neg h, mul_one, if_pos (by omega)]
      unfold edge
      refine congrArg (fun r => u (ix3 0 r d)) (Fin.ext ?_)
      show (16 * min (32 * t.val + 32) 1023 + (15 + k - 528) % 16) % 16384 = (512 * t.val + k - 1) % 16384
      omega

/-- The hidden layer of the block is the layer's at its tokens. -/
theorem tap_eq (w : FVec Ideal S1024x5632 .f32) (x : FVec Ideal S1024x2816 .f32) (q : Fin 2816) (p : Fin 5632) (hx : ∀ d : Fin 1024, x (ix2 d q) = w (ix2 d p)) (s : ℕ) (hs : s < 3)
    (r : Fin 512) : tap (near u t) x (15 + s) r q = upAt u w (512 * t.val + r.val + s) p := by
  have hr := r.isLt
  unfold tap upAt
  simp only [hx, Nat.add_assoc 15, near_apply u t (s + r.val) (by omega)]
  rw [show 512 * t.val + (s + r.val) = 512 * t.val + r.val + s by omega]
  split
  · rfl
  · exact Finset.sum_eq_zero fun d _ => zero_mul _

theorem conv_eq (w : FVec Ideal S1024x5632 .f32) (x : FVec Ideal S1024x2816 .f32) (cw : FVec Ideal S3x5632 .f32) (cb : FVec Ideal S5632 .f32) (q : Fin 2816) (p : Fin 5632)
    (hx : ∀ d : Fin 1024, x (ix2 d q) = w (ix2 d p)) (r : Fin 512) :
    conv (near u t) x cw (biasLine cb) r q p = convAt u w cw cb (512 * t.val + r.val) p := by
  unfold conv convAt
  rw [biasLine_apply, tap_eq u t w x q p hx 0 (by decide), tap_eq u t w x q p hx 1 (by decide), tap_eq u t w x q p hx 2 (by decide)]
  rfl

theorem acts_row (w : FVec Ideal S1024x5632 .f32) (cw : FVec Ideal S3x5632 .f32) (cb : FVec Ideal S5632 .f32) (r : Fin 512) (q : Fin 2816) :
    acts (near u t) (left w) (right w) cw (biasLine cb) (ix2 r q) = actAt u w cw cb (512 * t.val + r.val) q := by
  show conv (near u t) (right w) cw (biasLine cb) r q (Fin.ofNat 5632 (2816 + q.val)) * Ideal.logistic (conv (near u t) (right w) cw (biasLine cb) r q (Fin.ofNat 5632 (2816 + q.val))) *
    conv (near u t) (left w) cw (biasLine cb) r q (Fin.ofNat 5632 q.val) = _
  rw [conv_eq u t w _ cw cb q _ (fun d => right_apply w d q), conv_eq u t w _ cw cb q _ (fun d => left_apply w d q)]
  rfl

end rows

variable (m : (ℓ : Loc nD τ sig) → Buf (Elt Ideal) ℓ)

/-- The result array. -/
def result (c : Dev nD) : FVec Ideal S1x16384x1024 .f32 := fun y =>
  fullRow (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (y 1) (y 2)

/-- A block of the result array. -/
theorem tile_eq (c : Dev nD) (t : Fin cfg0.N) : outsAt0 m c t = rowBlk (e := .f32) (result m c) t.val := by
  obtain ⟨⟨h1, h3, h5⟩, ⟨h6, h7⟩, h8, h9⟩ := V_rest m c
  have ht := tlt t
  have h : ∀ (a : FVec Ideal S1x6x1024 .f32) (d : Fin 1024), padded a (ix3 0 5 d) = a (ix3 0 5 d) := fun a => padded_apply a 5
  funext y
  idx_vars y
  have hn : (512 * t.val + y1.val) % 16384 = 512 * t.val + y1.val := Nat.mod_eq_of_lt (by omega)
  rw [outs_eq, iblk0_eq, iblk1_eq, iblk2_eq, iblk3_eq, iblk4_eq, iblk5_eq, iblk6_eq, iblk7_eq, iblk8_eq, iblk9_eq, iblk10_eq, iblk11_eq, V_main_arg1, V_main_arg4, V_mod, h1, h3, h5, h6, h7,
    h8, h9]
  simp only [acts_row, line_apply, h]
  show _ = fullRow _ _ _ _ _ _ _ _ _ ⟨(512 * t.val + y1.val) % 16384, _⟩ y2
  unfold fullRow
  simp only [hn]
  congr 1
  funext d
  exact congrArg (fun r : Fin 16384 => (m ((c.tc : Thread nD τ).loc main_arg1) : FVec Ideal S1x16384x1024 .f32) (ix3 0 r d)) (Fin.ext hn)

theorem final (c : Dev nD) : (dats m 0 c).arrAt 12 cfg0.N = result m c := by
  refine (dats m 0 c).arrAt_eq_of_covers 12 _ (by decide +kernel) fun t hf y => ?_
  have ht := tlt t
  blk_simp
  rw [after0_12, tile_eq]
  idx_bounds y
  refine congrArg (result m c) ?_
  blk_ext [index12]

end Cert.Ffn

end
-- ==== Proof.FfnRef.lean ====
/-
  The reference of the feed-forward layer read at an index over the extended reals.
-/
module

public import proofs.«01_k».proof.Proof.FfnRows
public import proofs.«01_k».proof.Proof.Gen.Reference3Ideal.Run
public import Idealize.ShloMosaic.PureOps.IdealRules
public import Idealize.ShloMosaic.Lib.Pointwise

@[expose] public section

set_option maxRecDepth 16384

noncomputable section

namespace Cert.FfnRef

open Cert.Reference3Ideal Cert.Reference3Ideal.Gen Cert.Rows Cert.Ffn
open Idealize.ShloMosaic Idealize.ShloMosaic.TcCoe Idealize.ShloMosaic.Tactic
open Idealize.SL Idealize.SL.Sem

variable (a0 a1 : FVec Ideal S1x16384x1024 .f32) (a2 : FVec Ideal S1x6x1024 .f32) (a3 : FVec Ideal S1024x5632 .f32) (a4 : FVec Ideal S3x5632 .f32)
  (a5 : FVec Ideal S5632 .f32) (a6 : FVec Ideal S2816x1024 .f32) (a7 a8 : FVec Ideal S1024 .f32)

/-- The hidden layer. -/
def up : FVec Ideal S1x16384x5632 .f32 := Host.dotGeneral dot_S1x16384x1024_S1024x5632_S1x16384x5632_2_0_01_1_n_n none a0 a3

/-- The hidden layer between two tokens of zeros. -/
def padded : FVec Ideal S1x16386x5632 .f32 :=
  pad S1x16386x5632 ![0, 1, 0] ![0, 1, 0] ![0, 0, 0] (up a0 a3) (sitofp .f32 (constantI S_ 32 0#32)) pads_S1x16384x5632_S1x16386x5632_000_110_000 h_S_

/-- One vector for every token. -/
def every (v : FVec Ideal S5632 .f32) : FVec Ideal S1x16384x5632 .f32 :=
  broadcastInDim S1x16384x5632 ![0, 1, 2] bcast_S1x1x5632_S1x16384x5632_0_1_2 (broadcastInDim S1x1x5632 ![2] bcast_S5632_S1x1x5632_2 v)

/-- The convolution's weights for the token before. -/
def weight0 : FVec Ideal S5632 .f32 := shapeCast _ (extractStridedSlice S1x5632 ![0, 0] a4 slices_S3x5632_S1x5632_0_0) shapeCasts_S1x5632_S5632

/-- The convolution's weights for the token itself. -/
def weight1 : FVec Ideal S5632 .f32 := shapeCast _ (extractStridedSlice S1x5632 ![1, 0] a4 slices_S3x5632_S1x5632_1_0) shapeCasts_S1x5632_S5632

/-- The convolution's weights for the token after. -/
def weight2 : FVec Ideal S5632 .f32 := shapeCast _ (extractStridedSlice S1x5632 ![2, 0] a4 slices_S3x5632_S1x5632_2_0) shapeCasts_S1x5632_S5632

/-- The convolution. -/
def conv : FVec Ideal S1x16384x5632 .f32 :=
  addf (addf (addf (addf (broadcastInDim S1x16384x5632 ![] bcast_S_S1x16384x5632 (constant S_ .f32 0x00000000#32))
    (mulf (every (weight0 a4)) (extractStridedSlice S1x16384x5632 ![0, 0, 0] (padded a0 a3) slices_S1x16386x5632_S1x16384x5632_0_0_0)))
    (mulf (every (weight1 a4)) (extractStridedSlice S1x16384x5632 ![0, 1, 0] (padded a0 a3) slices_S1x16386x5632_S1x16384x5632_0_1_0)))
    (mulf (every (weight2 a4)) (extractStridedSlice S1x16384x5632 ![0, 2, 0] (padded a0 a3) slices_S1x16386x5632_S1x16384x5632_0_2_0)))
    (every a5)

/-- The half that gates. -/
def gate : FVec Ideal S1x16384x2816 .f32 := extractStridedSlice S1x16384x2816 ![0, 0, 2816] (conv a0 a3 a4 a5) slices_S1x16384x5632_S1x16384x2816_0_0_2816

/-- The half that is gated. -/
def kept : FVec Ideal S1x16384x2816 .f32 := extractStridedSlice S1x16384x2816 ![0, 0, 0] (conv a0 a3 a4 a5) slices_S1x16384x5632_S1x16384x2816_0_0_0

/-- 1 everywhere. -/
def ones : FVec Ideal S1x16384x2816 .f32 := broadcastInDim S1x16384x2816 ![] bcast_S_S1x16384x2816 (constant S_ .f32 0x3F800000#32)

/-- The gated half. -/
def act : FVec Ideal S1x16384x2816 .f32 :=
  mulf (mulf (gate a0 a3 a4 a5) (Host.divf ones (addf ones (Host.exp (Host.negf (gate a0 a3 a4 a5)))))) (kept a0 a3 a4 a5)

/-- The product with the weights of the way back. -/
def down : FVec Ideal S1x16384x1024 .f32 := Host.dotGeneral dot_S1x16384x2816_S2816x1024_S1x16384x1024_2_0_01_1_n_n none (act a0 a3 a4 a5) a6

/-- One row for every token. -/
def each (g : FVec Ideal S1x1x1024 .f32) : FVec Ideal S1x16384x1024 .f32 :=
  broadcastInDim S1x16384x1024 ![0, 1, 2] bcast_S1x1x1024_S1x16384x1024_0_1_2 g

/-- What the normalisation reads. -/
def before : FVec Ideal S1x16384x1024 .f32 :=
  addf (mulf (broadcastInDim S1x16384x1024 ![] bcast_S_S1x16384x1024 (Host.sqrt (Host.sqrt (constant S_ .f32 0x40000000#32)))) a1)
    (mulf (each (extractStridedSlice S1x1x1024 ![0, 5, 0] a2 slices_S1x6x1024_S1x1x1024_0_5_0)) (down a0 a3 a4 a5 a6))

/-- The mean of each row. -/
def means (X : FVec Ideal S1x16384x1024 .f32) : FVec Ideal S1x16384x1 .f32 :=
  Host.divf (broadcastInDim S1x16384x1 ![0, 1] bcast_S1x16384_S1x16384x1_0_1 (Host.reduceAdd X (constant S_ .f32 0x00000000#32) reducesTo_S1x16384x1024_S1x16384_d2 h_S_))
    (broadcastInDim S1x16384x1 ![] bcast_S_S1x16384x1 (constant S_ .f32 0x44800000#32))

/-- One number per row, for every column. -/
def wide (x : FVec Ideal S1x16384x1 .f32) : FVec Ideal S1x16384x1024 .f32 :=
  broadcastInDim S1x16384x1024 ![0, 1, 2] bcast_S1x16384x1_S1x16384x1024_0_1_2 x

/-- The rows normalised. -/
def normed (X : FVec Ideal S1x16384x1024 .f32) : FVec Ideal S1x16384x1024 .f32 :=
  mulf (subf X (wide (means X)))
    (wide (Host.rsqrt (addf (means (mulf (subf X (wide (means X))) (subf X (wide (means X))))) (broadcastInDim S1x16384x1 ![] bcast_S_S1x16384x1 (constant S_ .f32 0x3727C5AC#32)))))

/-- The result. -/
def result : FVec Ideal S1x16384x1024 .f32 :=
  addf (mulf (normed (before a0 a1 a2 a3 a4 a5 a6)) (each (broadcastInDim S1x1x1024 ![2] bcast_S1024_S1x1x1024_2 a7)))
    (each (broadcastInDim S1x1x1024 ![2] bcast_S1024_S1x1x1024_2 a8))

theorem up_apply (i : Fin 16384) (p : Fin 5632) : up a0 a3 (ix3 0 i p) = ∑ d : Fin 1024, a0 (ix3 0 i d) * a3 (ix2 d p) := by
  pointwise [up]

theorem padded_apply (n : Fin 16386) (p : Fin 5632) : padded a0 a3 (ix3 0 n p) = upAt a0 a3 n.val p := by
  unfold upAt
  split
  case isTrue h =>
    rw [← up_apply]
    pointwise [padded]
    rw [dif_pos ⟨h.1, by omega⟩]
    exact congrArg (fun r : Fin 16384 => up a0 a3 (ix3 0 r p)) (Fin.ext (Nat.mod_eq_of_lt (by omega)).symm)
  case isFalse h =>
    pointwise [padded]
    rw [dif_neg fun h' => h ⟨h'.1, by omega⟩]
    show (((0#32 : BitVec 32).toInt : ℝ) : EReal) = 0
    simp

theorem every_apply (v : FVec Ideal S5632 .f32) (i : Fin 16384) (p : Fin 5632) : every v (ix3 0 i p) = v (ix1 p) := by
  pointwise [every]

theorem weight0_apply (p : Fin 5632) : weight0 a4 (ix1 p) = a4 (ix2 0 p) := by
  pointwise [weight0]

theorem weight1_apply (p : Fin 5632) : weight1 a4 (ix1 p) = a4 (ix2 1 p) := by
  pointwise [weight1]

theorem weight2_apply (p : Fin 5632) : weight2 a4 (ix1 p) = a4 (ix2 2 p) := by
  pointwise [weight2]

theorem conv_apply (i : Fin 16384) (p : Fin 5632) : conv a0 a3 a4 a5 (ix3 0 i p) = convAt a0 a3 a4 a5 i.val p := by
  pointwise [conv]
  rw [every_apply, every_apply, every_apply, every_apply, weight0_apply, weight1_apply, weight2_apply, padded_apply, padded_apply, padded_apply, add_comm, ← add_assoc, ← add_assoc]
  show _ + _ + a4 (ix2 1 p) * upAt a0 a3 (1 + i.val) p + a4 (ix2 2 p) * upAt a0 a3 (2 + i.val) p = _
  rw [Nat.add_comm 1, Nat.add_comm 2]
  rfl

theorem gate_apply (i : Fin 16384) (q : Fin 2816) : gate a0 a3 a4 a5 (ix3 0 i q) = convAt a0 a3 a4 a5 i.val (Fin.ofNat 5632 (2816 + q.val)) := by
  rw [← conv_apply]
  pointwise [gate]
  exact congrArg (fun r : Fin 5632 => conv a0 a3 a4 a5 (ix3 0 i r)) (Fin.ext (Nat.mod_eq_of_lt (by omega)).symm)

theorem kept_apply (i : Fin 16384) (q : Fin 2816) : kept a0 a3 a4 a5 (ix3 0 i q) = convAt a0 a3 a4 a5 i.val (Fin.ofNat 5632 q.val) := by
  rw [← conv_apply]
  pointwise [kept]
  exact congrArg (fun r : Fin 5632 => conv a0 a3 a4 a5 (ix3 0 i r)) (Fin.ext (Nat.mod_eq_of_lt (by omega)).symm)

theorem ones_apply (y : S1x16384x2816.Idx) : ones y = 1 := by
  pointwise [ones]

theorem act_apply (i : Fin 16384) (q : Fin 2816) : act a0 a3 a4 a5 (ix3 0 i q) = actAt a0 a3 a4 a5 i.val q := by
  unfold actAt
  rw [← gate_apply, ← kept_apply]
  unfold act Ideal.logistic
  show _ * Ideal.div (ones _) (ones _ + _) * _ = _
  rw [ones_apply]
  rfl

theorem down_apply (i : Fin 16384) (e : Fin 1024) : down a0 a3 a4 a5 a6 (ix3 0 i e) = ∑ q : Fin 2816, actAt a0 a3 a4 a5 i.val q * a6 (ix2 q e) := by
  simp only [← act_apply]
  pointwise [down]

theorem before_apply (i : Fin 16384) (e : Fin 1024) : before a0 a1 a2 a3 a4 a5 a6 (ix3 0 i e) =
    alpha * a1 (ix3 0 i e) + a2 (ix3 0 5 e) * ∑ q : Fin 2816, actAt a0 a3 a4 a5 i.val q * a6 (ix2 q e) := by
  rw [← down_apply]
  pointwise [before, each]
  rw [sqrt_sqrt]

theorem normed_apply (X : FVec Ideal S1x16384x1024 .f32) (i : Fin 16384) (e : Fin 1024) : normed X (ix3 0 i e) = normRow (fun d => X (ix3 0 i d)) e := by
  pointwise [normed, wide, means]
  rfl

theorem result_apply (i : Fin 16384) (e : Fin 1024) : result a0 a1 a2 a3 a4 a5 a6 a7 a8 (ix3 0 i e) = fullRow a0 a1 a2 a3 a4 a5 a6 a7 a8 i e := by
  pointwise [result, each]
  rw [normed_apply]
  simp only [before_apply]
  rfl

variable (m : (ℓ : Loc nD τ sig) → Buf (Elt Ideal) ℓ)

theorem out (c : Dev nD) : Value.res_out0 (F := Ideal) m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) := rfl

end Cert.FfnRef

end
-- ==== Proof.FfnMatch.lean ====
/-
  The feed-forward kernel's result and its reference's are the same.
-/
module

public import proofs.«01_k».proof.Proof.FfnFinal
public import proofs.«01_k».proof.Proof.FfnRef

@[expose] public section

set_option maxRecDepth 16384

noncomputable section

namespace Cert.Ffn

open Idealize.ShloMosaic Idealize.ShloMosaic.TcCoe Idealize.ShloMosaic.Tactic

open Cert.Reference3Ideal

variable (a0 a1 : FVec Ideal S1x16384x1024 .f32) (a2 : FVec Ideal S1x6x1024 .f32) (a3 : FVec Ideal S1024x5632 .f32) (a4 : FVec Ideal S3x5632 .f32)
  (a5 : FVec Ideal S5632 .f32) (a6 : FVec Ideal S2816x1024 .f32) (a7 a8 : FVec Ideal S1024 .f32)

theorem same (y : S1x16384x1024.Idx) : FfnRef.result a0 a1 a2 a3 a4 a5 a6 a7 a8 y = fullRow a0 a1 a2 a3 a4 a5 a6 a7 a8 (y 1) (y 2) := by
  idx_vars y
  obtain rfl : y0 = 0 := Subsingleton.elim _ _
  exact FfnRef.result_apply a0 a1 a2 a3 a4 a5 a6 a7 a8 y1 y2

end Cert.Ffn

end
-- ==== Proof.lean ====
/-
  The claims about the attention, the merge and the feed-forward layer, assembled: the frames of the programs, the constants that
  the exact kernels name, and the equality of the exact kernels' results with the references'.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.LaunchPrinted
public import proofs.«01_k».proof.Proof.Match
public import proofs.«01_k».proof.Proof.MergeMatch
public import proofs.«01_k».proof.Proof.FfnMatch
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : @Cert.quiescent_Kernel Cert.Kernel.Gen.facts :=
  fun m g _ => Cert.AttnPrinted.frame_printed (F := Bits) m g

theorem frame_reference : @Cert.quiescent_ReferenceIdeal Cert.ReferenceIdeal.Gen.facts :=
  fun m g _ => (θ_run _ _ _).mono (fun r h => ⟨fun c => (h c).2, sem_eq_zero_of_no_sems (by decide) r.2⟩) (Cert.Ref.run m g)

theorem preserves : Cert.preserves_Kernel_KernelIdeal :=
  IdealRules.named_const.statement Cert.KernelIdeal.κ "qscale" .f32 0x3E16C740#32 (((Real.sqrt 96)⁻¹ * (Real.log 2)⁻¹ : ℝ) : EReal) rfl

theorem algebraic : @Cert.algebraic_KernelIdeal_ReferenceIdeal_pre_finite_scores Cert.KernelIdeal.Gen.facts Cert.ReferenceIdeal.Gen.facts
    Cert.Pre_finite_scores.Gen.facts := by
  intro m g m' g' hp ha
  refine ⟨_, (θ_run _ _ _).mono (fun r h c => ⟨h.1 c, h.2.1 c⟩) (θ_run_and (Cert.Attn.run_result m g) (Cert.Attn.frame_ideal m g)),
    (θ_run _ _ _).mono (fun r h c => ⟨(h c).1.trans ?_, (h c).2⟩) (Cert.Ref.run m' g')⟩
  obtain ⟨h0, h1, h2, h3, h4⟩ := ha c
  rw [h0, h1, h2, h3, h4]
  exact funext fun x => Cert.Match.result_eq _ _ _ _ _ (hp c) x

theorem preserves_merge : Cert.preserves_Kernel2_Kernel2Ideal :=
  IdealRules.named_const.statement Cert.Kernel2Ideal.κ "dn_alpha" .f32 0x3F9837F0#32 ((Real.sqrt (Real.sqrt 2) : ℝ) : EReal) rfl

theorem frame_merge_reference : @Cert.quiescent_Reference2Ideal Cert.Reference2Ideal.Gen.facts :=
  fun m g _ => (θ_run _ _ _).mono (fun r h => ⟨fun c => (h c).2.2, sem_eq_zero_of_no_sems (by decide) r.2⟩) (Cert.Reference2Ideal.Value.run (F := Ideal) m g)

theorem algebraic_merge : @Cert.algebraic_Kernel2Ideal_Reference2Ideal Cert.Kernel2Ideal.Gen.facts Cert.Reference2Ideal.Gen.facts := by
  intro m g m' g' _ ha
  refine ⟨Cert.Merge.result1 m, Cert.Merge.result2 m,
    (θ_run _ _ _).mono (fun r h c => ⟨(h c).1.trans (Cert.Merge.final1 m c), (h c).2.1.trans (Cert.Merge.final2 m c), (h c).2.2⟩) (Cert.Kernel2Ideal.Value.run_blocks m g),
    (θ_run _ _ _).mono (fun r h c => ⟨(h c).1.trans ?_, (h c).2.1.trans ?_, (h c).2.2⟩) (Cert.Reference2Ideal.Value.run (F := Ideal) m' g')⟩
  all_goals obtain ⟨h0, h1, h2, h3, h4, h5, h6, h7, h8, h9, h10, h11, h12⟩ := ha c
  · refine (Cert.MergeRef.out1 m' c).trans ?_
    rw [h0, h1, h2, h3, h4, h5, h6, h7, h8, h9, h10, h11, h12]
    exact funext fun y => Cert.Merge.same1 _ _ _ _ _ _ _ _ _ _ _ _ _ y
  · refine (Cert.MergeRef.out2 m' c).trans ?_
    rw [h0, h1, h2, h3, h4, h5, h6, h7, h8, h9, h10, h11, h12]
    exact funext fun y => Cert.Merge.same2 _ _ _ _ _ _ _ _ _ _ _ _ _ y

theorem preserves_ffn : Cert.preserves_Kernel3_Kernel3Ideal :=
  IdealRules.named_const.statement Cert.Kernel3Ideal.κ "dn_alpha" .f32 0x3F9837F0#32 ((Real.sqrt (Real.sqrt 2) : ℝ) : EReal) rfl

theorem frame_ffn_reference : @Cert.quiescent_Reference3Ideal Cert.Reference3Ideal.Gen.facts :=
  fun m g _ => (θ_run _ _ _).mono (fun r h => ⟨fun c => (h c).2, sem_eq_zero_of_no_sems (by decide) r.2⟩) (Cert.Reference3Ideal.Value.run (F := Ideal) m g)

theorem algebraic_ffn : @Cert.algebraic_Kernel3Ideal_Reference3Ideal Cert.Kernel3Ideal.Gen.facts Cert.Reference3Ideal.Gen.facts := by
  intro m g m' g' _ ha
  refine ⟨Cert.Ffn.result m,
    (θ_run _ _ _).mono (fun r h c => ⟨(h c).1.trans (Cert.Ffn.final m c), (h c).2⟩) (Cert.Kernel3Ideal.Value.run_blocks m g),
    (θ_run _ _ _).mono (fun r h c => ⟨(h c).1.trans ?_, (h c).2⟩) (Cert.Reference3Ideal.Value.run (F := Ideal) m' g')⟩
  obtain ⟨h0, h1, h2, h3, h4, h5, h6, h7, h8⟩ := ha c
  refine (Cert.FfnRef.out m' c).trans ?_
  rw [h0, h1, h2, h3, h4, h5, h6, h7, h8]
  exact funext fun y => Cert.Ffn.same _ _ _ _ _ _ _ _ _ y

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_scores.Gen.facts,
    frame_kernel, fun m g _ => Cert.Attn.frame_ideal m g, fun m g _ => Cert.Attn.frame_ideal m g, frame_reference,
    fun m g _ => frame_reference m g trivial,
    fun m g _ => Cert.Kernel2.Gen.frame m g, fun m g _ => Cert.Kernel2Ideal.Gen.frame m g, frame_merge_reference,
    fun m g _ => Cert.Kernel3.Gen.frame m g, fun m g _ => Cert.Kernel3Ideal.Gen.frame m g, frame_ffn_reference,
    preserves, algebraic, preserves_merge, algebraic_merge, preserves_ffn, algebraic_ffn⟩

end Cert.Proof

end
